-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30_0) = v0 c
          ∧ r.2.mem ((c.tc : Thread Cert.ReferenceIdeal.nD Cert.ReferenceIdeal.τ).loc Cert.ReferenceIdeal.main_v30_1) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x2048x768 : Shape := ⟨3, ![48, 2048, 768]⟩
abbrev S256x256 : Shape := ⟨2, ![256, 256]⟩
abbrev S98304x768 : Shape := ⟨2, ![98304, 768]⟩
abbrev S98304x384 : Shape := ⟨2, ![98304, 384]⟩
abbrev S48x48x2048 : Shape := ⟨3, ![48, 48, 2048]⟩
abbrev S1x1 : Shape := ⟨2, ![1, 1]⟩
abbrev S2048x768 : Shape := ⟨2, ![2048, 768]⟩
abbrev S2048x384 : Shape := ⟨2, ![2048, 384]⟩
abbrev S1x48x2048 : Shape := ⟨3, ![1, 48, 2048]⟩
abbrev S16x2048 : Shape := ⟨2, ![16, 2048]⟩
abbrev S48x2048 : Shape := ⟨2, ![48, 2048]⟩
abbrev S2048x256 : Shape := ⟨2, ![2048, 256]⟩
abbrev S256x2048 : Shape := ⟨2, ![256, 2048]⟩
abbrev S16x16x2048 : Shape := ⟨3, ![16, 16, 2048]⟩
abbrev S1x16x2048 : Shape := ⟨3, ![1, 16, 2048]⟩
abbrev S1 : Shape := ⟨1, ![1]⟩
abbrev S1x1x1 : Shape := ⟨3, ![1, 1, 1]⟩
abbrev S1x2048 : Shape := ⟨2, ![1, 2048]⟩
abbrev S32x8x2048 : Shape := ⟨3, ![32, 8, 2048]⟩
abbrev S32x2048 : Shape := ⟨2, ![32, 2048]⟩
abbrev S128x2048 : Shape := ⟨2, ![128, 2048]⟩
abbrev S2048x128 : Shape := ⟨2, ![2048, 128]⟩
abbrev S48x2048x384 : Shape := ⟨3, ![48, 2048, 384]⟩
abbrev S48x2048x48 : Shape := ⟨3, ![48, 2048, 48]⟩
abbrev S_ : Shape := ⟨0, ![]⟩

abbrev nBuf : Space → Nat
  | .hbm => 10
  | .vmem => 11
  | .smem => 1
  | _ => 0

abbrev bufTy : (tb : Table) → Fin (tcTables nBuf tb) → BufTy
  | .hbm, ⟨0, _⟩ => ⟨S48x2048x768, .bf16⟩
  | .hbm, ⟨1, _⟩ => ⟨S256x256, .bf16⟩
  | .hbm, ⟨2, _⟩ => ⟨S256x256, .bf16⟩
  | .hbm, ⟨3, _⟩ => ⟨S98304x768, .bf16⟩
  | .hbm, ⟨4, _⟩ => ⟨S98304x384, .i8⟩
  | .hbm, ⟨5, _⟩ => ⟨S48x48x2048, .fp8e4m3⟩
  | .hbm, ⟨6, _⟩ => ⟨S1x1, .f32⟩
  | .hbm, ⟨7, _⟩ => ⟨S48x2048x384, .i8⟩
  | .hbm, ⟨8, _⟩ => ⟨S48x2048x48, .fp8e4m3⟩
  | .hbm, ⟨9, _⟩ => ⟨S_, .f32⟩
  | .local _ .vmem, ⟨0, _⟩ => ⟨S2048x768, .bf16⟩
  | .local _ .vmem, ⟨1, _⟩ => ⟨S2048x768, .bf16⟩
  | .local _ .vmem, ⟨2, _⟩ => ⟨S256x256, .bf16⟩
  | .local _ .vmem, ⟨3, _⟩ => ⟨S256x256, .bf16⟩
  | .local _ .vmem, ⟨4, _⟩ => ⟨S2048x384, .i8⟩
  | .local _ .vmem, ⟨5, _⟩ => ⟨S2048x384, .i8⟩
  | .local _ .vmem, ⟨6, _⟩ => ⟨S1x48x2048, .fp8e4m3⟩
  | .local _ .vmem, ⟨7, _⟩ => ⟨S1x48x2048, .fp8e4m3⟩
  | .local _ .vmem, ⟨8, _⟩ => ⟨S48x48x2048, .f32⟩
  | .local _ .vmem, ⟨9, _⟩ => ⟨S16x2048, .f32⟩
  | .local _ .vmem, ⟨10, _⟩ => ⟨S48x2048, .f32⟩
  | .local _ .smem, ⟨0, _⟩ => ⟨S1x1, .f32⟩
  | _, _ => ⟨S48x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c48_i32 : BitVec 32 := 48#32
  let v0 : BitVec 1 := Scalar.cmpi .slt arg0 c48_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v14 : Index := Scalar.indexCast arg0
  let c0_7 : Index := 0#32
  let c0_8 : Index := 0#32
  ![v14.toNat, 0, 0]
def k0_off2 (i : grid0.Coords) : Fin 3 → Nat :=
  let arg0 : BitVec 32 := BitVec.ofNat 32 (i 0).val
  let v26 : Index := Scalar.indexCast arg0
  let c16 : Index := 16#32
  let c0_14 : Index := 0#32
  ![v26.toNat, 16, 0]
def k0_off3 (i : grid0.Coords) : Fin 3 → Nat :=
  let arg0 : BitVec 32 := BitVec.ofNat 32 (i 0).val
  let v38 : Index := Scalar.indexCast arg0
  let c32 : Index := 32#32
  let c0_20 : Index := 0#32
  ![v38.toNat, 32, 0]
def k0_cond5 (i : grid0.Coords) : BitVec 1 :=
  let arg0 : BitVec 32 := BitVec.ofNat 32 (i 0).val
  let c48_i32_0 : BitVec 32 := 48#32
  let v3 : BitVec 1 := Scalar.cmpi .sge arg0 c48_i32_0
  let v4 : BitVec 32 := Scalar.extui v3
  let c0_i32_1 : BitVec 32 := 0#32
  let v5 : BitVec 1 := Scalar.cmpi .ne v4 c0_i32_1
  v5

def k0_off4 (i : grid0.Coords) : Fin 3 → Nat :=
  let arg0 : BitVec 32 := BitVec.ofNat 32 (i 0).val
  let c48_i32_3 : BitVec 32 := 48#32
  let v7 : BitVec 32 := Scalar.subi arg0 c48_i32_3
  let v8 : Index := Scalar.indexCast v7
  let c0_4 : Index := 0#32
  let c0_5 : Index := 0#32
  ![v8.toNat, 0, 0]
def k0_cond4 (i : grid0.Coords) : BitVec 1 :=
  let arg0 : BitVec 32 := BitVec.ofNat 32 (i 0).val
  let c47_i32 : BitVec 32 := 47#32
  let v49 : BitVec 1 := Scalar.cmpi .eq arg0 c47_i32
  let v50 : BitVec 32 := Scalar.extui v49
  let c0_i32_25 : BitVec 32 := 0#32
  let v51 : BitVec 1 := Scalar.cmpi .ne v50 c0_i32_25
  v51

def cc0_transform_0 (i : grid0.Coords) : Fin 2 → Nat :=
  let arg0 : BitVec 32 := BitVec.ofNat 32 (i 0).val
  let c48_i32 : BitVec 32 := 48#32
  let v0 : BitVec 1 := Scalar.cmpi .slt arg0 c48_i32
  let c48_i32_0 : BitVec 32 := 48#32
  let v1 : BitVec 32 := Scalar.subi arg0 c48_i32_0
  let v2 : BitVec 32 := Scalar.select v0 arg0 v1
  let c0_i32 : BitVec 32 := 0#32
  let c0_i32_1 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c48_i32 : BitVec 32 := 48#32
  let v0 : BitVec 1 := Scalar.cmpi .slt arg0 c48_i32
  let c48_i32_0 : BitVec 32 := 48#32
  let v1 : BitVec 32 := Scalar.subi arg0 c48_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_4 (i : grid0.Coords) : Fin 3 → Nat :=
  let arg0 : BitVec 32 := BitVec.ofNat 32 (i 0).val
  let c48_i32 : BitVec 32 := 48#32
  let v0 : BitVec 1 := Scalar.cmpi .slt arg0 c48_i32
  let c48_i32_0 : BitVec 32 := 48#32
  let v1 : BitVec 32 := Scalar.subi arg0 c48_i32_0
  let c0_i32 : BitVec 32 := 0#32
  let v2 : BitVec 32 := Scalar.select v0 c0_i32 v1
  let c1_i32 : BitVec 32 := 1#32
  let v3 : BitVec 32 := Scalar.divsi v2 c1_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi v2 c1_i32
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let c48_i32_7 : BitVec 32 := 48#32
  let v20 : BitVec 1 := Scalar.cmpi .slt arg0 c48_i32_7
  let c48_i32_8 : BitVec 32 := 48#32
  let v21 : BitVec 32 := Scalar.subi arg0 c48_i32_8
  let c0_i32_9 : BitVec 32 := 0#32
  let v22 : BitVec 32 := Scalar.select v20 c0_i32_9 v21
  let c1_i32_10 : BitVec 32 := 1#32
  let c0_i32_11 : BitVec 32 := 0#32
  let v23 : BitVec 1 := Scalar.cmpi .eq c1_i32_10 c0_i32_11
  let c1_i32_12 : BitVec 32 := 1#32
  let v24 : BitVec 32 := Scalar.select v23 c1_i32_12 c1_i32_10
  let v25 : BitVec 32 := Scalar.remsi v22 v24
  let c0_i32_13 : BitVec 32 := 0#32
  let v26 : BitVec 1 := Scalar.cmpi .ne v25 c0_i32_13
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let v30 : BitVec 1 := Scalar.andi v29 v26
  let v31 : BitVec 32 := Scalar.addi v25 v24
  let v32 : BitVec 32 := Scalar.select v30 v31 v25
  let c0_i32_16 : BitVec 32 := 0#32
  let c0_i32_17 : BitVec 32 := 0#32
  ![v19.toNat, c0_i32_16.toNat, v32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x384 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x48x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S48x2048x768 : Shape := ⟨3, ![48, 2048, 768]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S48x48 : Shape := ⟨2, ![48, 48]⟩
abbrev S48x1x48x1 : Shape := ⟨4, ![48, 1, 48, 1]⟩
abbrev S1x16x1x16 : Shape := ⟨4, ![1, 16, 1, 16]⟩
abbrev S48x16x48x16 : Shape := ⟨4, ![48, 16, 48, 16]⟩
abbrev S768x768 : Shape := ⟨2, ![768, 768]⟩
abbrev S98304x768 : Shape := ⟨2, ![98304, 768]⟩
abbrev S48x2048x48x16 : Shape := ⟨4, ![48, 2048, 48, 16]⟩
abbrev S48x2048x48 : Shape := ⟨3, ![48, 2048, 48]⟩
abbrev S1x1x1 : Shape := ⟨3, ![1, 1, 1]⟩
abbrev S48x2048x384 : Shape := ⟨3, ![48, 2048, 384]⟩
abbrev S48x2048x48x1 : Shape := ⟨4, ![48, 2048, 48, 1]⟩
abbrev S48x2048x384x2 : Shape := ⟨4, ![48, 2048, 384, 2]⟩
abbrev S48x2048x384x1 : Shape := ⟨4, ![48, 2048, 384, 1]⟩

abbrev nBuf : Space → Nat
  | .hbm => 50
  | .vmem => 5
  | .smem => 0
  | _ => 0

abbrev bufTy : (tb : Table) → Fin (tcTables nBuf tb) → BufTy
  | .hbm, ⟨0, _⟩ => ⟨S48x2048x768, .bf16⟩
  | .hbm, ⟨1, _⟩ => ⟨S16, .i32⟩
  | .hbm, ⟨2, _⟩ => ⟨S16x1, .i32⟩
  | .hbm, ⟨3, _⟩ => ⟨S1x16, .i32⟩
  | .hbm, ⟨4, _⟩ => ⟨S16x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S_, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i1⟩
  | .hbm, ⟨14, _⟩ => ⟨S_, .f32⟩
  | .hbm, ⟨15, _⟩ => ⟨S_, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S48x48, .i32⟩
  | .hbm, ⟨20, _⟩ => ⟨S48x48, .i32⟩
  | .hbm, ⟨21, _⟩ => ⟨S_, .i32⟩
  | .hbm, ⟨22, _⟩ => ⟨S48x48, .i32⟩
  | .hbm, ⟨23, _⟩ => ⟨S48x48, .i32⟩
  | .hbm, ⟨24, _⟩ => ⟨S48x48, .i1⟩
  | .hbm, ⟨25, _⟩ => ⟨S48x48, .f32⟩
  | .hbm, ⟨26, _⟩ => ⟨S48x1x48x1, .f32⟩
  | .hbm, ⟨27, _⟩ => ⟨S1x16x1x16, .f32⟩
  | .hbm, ⟨28, _⟩ => ⟨S48x16x48x16, .f32⟩
  | .hbm, ⟨29, _⟩ => ⟨S48x16x48x16, .f32⟩
  | .hbm, ⟨30, _⟩ => ⟨S48x16x48x16, .f32⟩
  | .hbm, ⟨31, _⟩ => ⟨S768x768, .f32⟩
  | .hbm, ⟨32, _⟩ => ⟨S768x768, .bf16⟩
  | .hbm, ⟨33, _⟩ => ⟨S98304x768, .bf16⟩
  | .hbm, ⟨34, _⟩ => ⟨S98304x768, .f32⟩
  | .hbm, ⟨35, _⟩ => ⟨S48x2048x48x16, .f32⟩
  | .hbm, ⟨36, _⟩ => ⟨S48x2048x48x16, .f32⟩
  | .hbm, ⟨37, _⟩ => ⟨S_, .f32⟩
  | .hbm, ⟨38, _⟩ => ⟨S48x2048x48, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x1x1, .f32⟩
  | .hbm, ⟨48, _⟩ => ⟨S48x2048x384, .i8⟩
  | .hbm, ⟨49, _⟩ => ⟨S48x2048x48, .fp8e4m3⟩
  | .local _ .vmem, ⟨0, _⟩ => ⟨S48x2048x48x16, .f32⟩
  | .local _ .vmem, ⟨1, _⟩ => ⟨S48x2048x48, .f32⟩
  | .local _ .vmem, ⟨2, _⟩ => ⟨S1x1x1, .f32⟩
  | .local _ .vmem, ⟨3, _⟩ => ⟨S48x2048x384, .i8⟩
  | .local _ .vmem, ⟨4, _⟩ => ⟨S48x2048x48, .fp8e4m3⟩
  | _, _ => ⟨S48x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S48x2048x48x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x2048x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x2048x384 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x2048x48 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Base.lean ====
/- Hand-written, untrusted. What the runs of the kernel's body share: the branch conditions in closed form, where the
   windows are idle and written back, and the scratch operands as memrefs. -/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- First pass. -/
abbrev cond1 (i : grid0.Coords) : Prop := k0_cond1 i = 1#1
theorem hcond1 : ∀ t : Fin cfg0.N, cond1 (grid0.coords t) ↔ t.val < 48 :=
  (by decide +kernel : ∀ t : Fin grid0.N, cond1 (grid0.coords t) ↔ t.val < 48)
/-- The first point. -/
abbrev cond2 (i : grid0.Coords) : Prop := (Scalar.cmpi .ne (Scalar.extui (Scalar.cmpi .eq (BitVec.ofNat 32 (i 0).val) 0#32)) 0#32) = 1#1
theorem hcond2 : ∀ t : Fin cfg0.N, cond2 (grid0.coords t) ↔ t.val = 0 :=
  (by decide +kernel : ∀ t : Fin grid0.N, cond2 (grid0.coords t) ↔ t.val = 0)
/-- Any later point. -/
abbrev cond3 (i : grid0.Coords) : Prop := (Scalar.cmpi .ne (Scalar.extui (Scalar.cmpi .sgt (BitVec.ofNat 32 (i 0).val) 0#32)) 0#32) = 1#1
theorem hcond3 : ∀ t : Fin cfg0.N, cond3 (grid0.coords t) ↔ t.val ≠ 0 :=
  (by decide +kernel : ∀ t : Fin grid0.N, cond3 (grid0.coords t) ↔ t.val ≠ 0)
/-- The first pass's last point. -/
abbrev cond4 (i : grid0.Coords) : Prop := k0_cond4 i = 1#1
theorem hcond4 : ∀ t : Fin cfg0.N, cond4 (grid0.coords t) ↔ t.val = 47 :=
  (by decide +kernel : ∀ t : Fin grid0.N, cond4 (grid0.coords t) ↔ t.val = 47)
/-- Second pass. -/
abbrev cond5 (i : grid0.Coords) : Prop := k0_cond5 i = 1#1
theorem hcond5 : ∀ t : Fin cfg0.N, cond5 (grid0.coords t) ↔ 48 ≤ t.val :=
  (by decide +kernel : ∀ t : Fin grid0.N, cond5 (grid0.coords t) ↔ 48 ≤ t.val)

/-! ## Where the windows are idle, and where they are written back -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem idle3 : ∀ t : Fin cfg0.N, cfg0.idle 3 (grid0.coords t) = decide (t.val < 48) :=
  (by decide +kernel : ∀ t : Fin grid0.N, idle0 3 (grid0.coords t) = decide (t.val < 48))
theorem idle4 : ∀ t : Fin cfg0.N, cfg0.idle 4 (grid0.coords t) = decide (t.val < 48) :=
  (by decide +kernel : ∀ t : Fin grid0.N, idle0 4 (grid0.coords t) = decide (t.val < 48))
theorem idle5 : ∀ t : Fin cfg0.N, cfg0.idle 5 (grid0.coords t) = decide (t.val ≠ 47) :=
  (by decide +kernel : ∀ t : Fin grid0.N, idle0 5 (grid0.coords t) = decide (t.val ≠ 47))
theorem flush3 : ∀ t : Fin cfg0.N, (cfg0.win 3).flush t = decide (48 ≤ t.val) :=
  (by decide +kernel : ∀ t : Fin grid0.N, win0_3.flush t = decide (48 ≤ t.val))
theorem flush4 : ∀ t : Fin cfg0.N, (cfg0.win 4).flush t = decide (48 ≤ t.val) :=
  (by decide +kernel : ∀ t : Fin grid0.N, win0_4.flush t = decide (48 ≤ t.val))
theorem flush5 : ∀ t : Fin cfg0.N, (cfg0.win 5).flush t = decide (t.val = 95) :=
  (by decide +kernel : ∀ t : Fin grid0.N, win0_5.flush t = decide (t.val = 95))

/-! ## The staging memrefs and the scratch -/

abbrev ms0 (t : Fin cfg0.N) : Memref sig .tc .vmem S2048x768 .bf16 := win0_0.stage (cfg0.slots t 0)
abbrev ms1 (t : Fin cfg0.N) : Memref sig .tc .vmem S256x256 .bf16 := win0_1.stage (cfg0.slots t 1)
abbrev ms2 (t : Fin cfg0.N) : Memref sig .tc .vmem S256x256 .bf16 := win0_2.stage (cfg0.slots t 2)
abbrev ms3 (t : Fin cfg0.N) : Memref sig .tc .vmem S2048x384 .i8 := win0_3.stage (cfg0.slots t 3)
abbrev ms4 (t : Fin cfg0.N) : Memref sig .tc .vmem S1x48x2048 .fp8e4m3 := win0_4.stage (cfg0.slots t 4)
abbrev ms5 (t : Fin cfg0.N) : Memref sig .tc .smem S1x1 .f32 := win0_5.stage (cfg0.slots t 5)
abbrev sc0 : Memref sig .tc .vmem S48x48x2048 .f32 := Memref.whole cc0_scratch0
abbrev sc1 : Memref sig .tc .vmem S16x2048 .f32 := Memref.whole cc0_scratch1
abbrev sc2 : Memref sig .tc .vmem S48x2048 .f32 := Memref.whole cc0_scratch2

/-- The frame kit's invariant with the scratch operands as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel.Hand

end
-- ==== Proof.Kernel.Vals.lean ====
/- Hand-written, untrusted. What the kernel computes, tile by tile, as functions of what it reads: the block maxima of
   a tile, the running maximum, the global scale, the block scales, their reciprocals and the packed codes. -/
module

public import proofs.«01_k».proof.Proof.Kernel.Base
public import Idealize.ShloMosaic.Lib.ValueIdxCore
public import Idealize.ShloMosaic.Lib.VecWindow
public import Idealize.ShloMosaic.Lib.WritesUnit
public import Idealize.ShloMosaic.Lib.WholeRead

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first pass -/

/-- The three 256-column chunks of a tile. -/
def ch0 (x : Vec F S2048x768 .bf16) : Vec F S2048x256 .bf16 := fun q => x (ix2 ⟨(q 0).val, (q 0).isLt⟩ ⟨(q 1).val, by have := ValueIdx.idx2_lt1 q; omega⟩)
def ch1 (x : Vec F S2048x768 .bf16) : Vec F S2048x256 .bf16 := fun q => x (ix2 ⟨(q 0).val, (q 0).isLt⟩ ⟨256 + (q 1).val, by have := ValueIdx.idx2_lt1 q; omega⟩)
def ch2 (x : Vec F S2048x768 .bf16) : Vec F S2048x256 .bf16 := fun q => x (ix2 ⟨(q 0).val, (q 0).isLt⟩ ⟨512 + (q 1).val, by have := ValueIdx.idx2_lt1 q; omega⟩)

/-- A tile's block maxima, block by token. -/
def bmOf (hp : Vec F S256x256 .bf16) (x : Vec F S2048x768 .bf16) : Vec F S48x2048 .f32 := fun q =>
  if h0 : (q 0).val < 16 then k0_pay6 hp (ch0 x) (ix2 ⟨(q 0).val, h0⟩ ⟨(q 1).val, ValueIdx.idx2_lt1 q⟩)
  else if h1 : (q 0).val < 32 then k0_pay6 hp (ch1 x) (ix2 ⟨(q 0).val - 16, by omega⟩ ⟨(q 1).val, ValueIdx.idx2_lt1 q⟩)
  else k0_pay6 hp (ch2 x) (ix2 ⟨(q 0).val - 32, by have := ValueIdx.idx2_lt0 q; omega⟩ ⟨(q 1).val, ValueIdx.idx2_lt1 q⟩)

/-- The block maxima of all tiles, after tile `n` has been written. -/
def put7 (n : ℕ) (B : Vec F S48x2048 .f32) (b : Vec F S48x48x2048 .f32) : Vec F S48x48x2048 .f32 := fun p =>
  if (p 0).val = n then B (ix2 ⟨(p 1).val, (p 1).isLt⟩ ⟨(p 2).val, (p 2).isLt⟩) else b p

/-- The running maximum after the first tile, and after a later one. -/
def gmA (hp : Vec F S256x256 .bf16) (x : Vec F S2048x768 .bf16) : Vec F S16x2048 .f32 :=
  k0_pay3 (k0_pay10 hp (ch0 x) hp (ch1 x)) (k0_pay11 hp (ch2 x))
def gmB (hp : Vec F S256x256 .bf16) (x : Vec F S2048x768 .bf16) (b : Vec F S16x2048 .f32) : Vec F S16x2048 .f32 :=
  k0_pay4 (k0_pay10 hp (ch0 x) hp (ch1 x)) (k0_pay11 hp (ch2 x)) b

/-- The global scale, as the one entry of its array. -/
def sgOf (b : Vec F S16x2048 .f32) : Vec F S1x1 .f32 := fun _ => k0_pay5 b

/-! ## The second pass -/

/-- Tile `n`'s block maxima out of all tiles'. -/
def slab (n : Fin 48) (b : Vec F S48x48x2048 .f32) : Vec F S1x48x2048 .f32 := fun q =>
  b (ix3 n ⟨(q 1).val, (q 1).isLt⟩ ⟨(q 2).val, (q 2).isLt⟩)

/-- Row `k` of the reciprocal scales. -/
def rowL (rr : Vec F S48x2048 .f32) (k : Fin 48) : Vec F S1x2048 .f32 := fun q => rr (ix2 k ⟨(q 1).val, (q 1).isLt⟩)

theorem slices16 : ∀ n : Fin 16, Shape.Slices S256x2048 ![16 * n.val, 0] S16x2048 := by decide

/-- The rotated rows scaled, sixteen rows to a block. -/
def zCat (y : FVec F S256x2048 .f32) (v : Fin 16 → Vec F S1x2048 .f32) : FVec F S256x2048 .f32 :=
  concatenate S256x2048 0 (List.ofFn fun n : Fin 16 => (⟨S16x2048, mulf (extractStridedSlice S16x2048 ![16 * n.val, 0] y (slices16 n)) (broadcastTo S16x2048 (v n) broadcasts_S1x2048_S16x2048)⟩ : (s : Shape) × (s.Idx → F .f32)))
    concatenates_S16x2048_S16x2048_S16x2048_S16x2048_S16x2048_S16x2048_S16x2048_S16x2048_S16x2048_S16x2048_S16x2048_S16x2048_S16x2048_S16x2048_S16x2048_S16x2048_S256x2048_d0

/-- The sign's and the first two boundaries' contributions to the codes. -/
def codesA (z : FVec F S256x2048 .f32) : IVec S256x2048 32 :=
  have cst_38 : F .f32 := Scalar.ofBits .f32 0x00000000#32
  have v104 : FVec F S256x2048 .f32 := broadcast S256x2048 cst_38
  have v105 : IVec S256x2048 1 := cmpf .olt z v104
  have v106 : IVec S256x2048 32 := broadcast S256x2048 8#32
  have v107 : IVec S256x2048 32 := broadcast S256x2048 0#32
  have v108 : IVec S256x2048 32 := select v105 v106 v107
  have cst_40 : F .f32 := Scalar.ofBits .f32 0x3E800000#32
  have v109 : FVec F S256x2048 .f32 := broadcast S256x2048 cst_40
  have v110 : IVec S256x2048 1 := cmpf .ogt (absf z) v109
  have v111 : IVec S256x2048 32 := broadcast S256x2048 1#32
  have v112 : IVec S256x2048 32 := broadcast S256x2048 0#32
  have v113 : IVec S256x2048 32 := select v110 v111 v112
  have v114 : IVec S256x2048 32 := addi v108 v113
  have cst_42 : F .f32 := Scalar.ofBits .f32 0x3FA00000#32
  have v115 : FVec F S256x2048 .f32 := broadcast S256x2048 cst_42
  have v116 : IVec S256x2048 1 := cmpf .ogt (absf z) v115
  have v117 : IVec S256x2048 32 := broadcast S256x2048 1#32
  have v118 : IVec S256x2048 32 := broadcast S256x2048 0#32
  have v119 : IVec S256x2048 32 := select v116 v117 v118
  have v120 : IVec S256x2048 32 := addi v114 v119
  v120

/-- Eight codes to a word. -/
def wordsOf (z : FVec F S256x2048 .f32) : IVec S32x2048 32 := k0_pay33 (absf z) (codesA z) (Scalar.ofBits .f32 0x40200000#32)

/-- A chunk's packed codes, token by byte. -/
def packOf (z : FVec F S256x2048 .f32) : IVec S2048x128 8 :=
  k0_pay36 (wordsOf z) (k0_pay34 (absf z) (codesA z) (Scalar.ofBits .f32 0x40200000#32)) k0_pay35

/-- Chunk `k`'s packed codes. -/
def chunkP (hn : Vec F S256x256 .bf16) (xk : Vec F S2048x256 .bf16) (v : Fin 16 → Vec F S1x2048 .f32) : IVec S2048x128 8 :=
  packOf (zCat (k0_pay15 hn xk) v)

/-- A tile's packed codes. -/
def outP (hn : Vec F S256x256 .bf16) (x : Vec F S2048x768 .bf16) (rr : Vec F S48x2048 .f32) : Vec F S2048x384 .i8 := fun p =>
  if h0 : (p 1).val < 128 then chunkP hn (ch0 x) (fun b => rowL rr ⟨b.val, by omega⟩) (ix2 ⟨(p 0).val, ValueIdx.idx2_lt0 p⟩ ⟨(p 1).val, h0⟩)
  else if h1 : (p 1).val < 256 then chunkP hn (ch1 x) (fun b => rowL rr ⟨16 + b.val, by omega⟩) (ix2 ⟨(p 0).val, ValueIdx.idx2_lt0 p⟩ ⟨(p 1).val - 128, by omega⟩)
  else chunkP hn (ch2 x) (fun b => rowL rr ⟨32 + b.val, by omega⟩) (ix2 ⟨(p 0).val, ValueIdx.idx2_lt0 p⟩ ⟨(p 1).val - 256, by have := ValueIdx.idx2_lt1 p; omega⟩)

/-! ## What loads read -/

theorem ld_ch0 (x : Vec F S2048x768 .bf16) : (View.ld (Val := Elt F) x (Rect.unit ![0, 0] S2048x256.size inb_S2048x768_S2048x256_0_0)) = ch0 x := by
  funext q
  refine congrArg x (funext fun a => Fin.ext ?_)
  match a with
  | ⟨0, _⟩ => show 0 + 1 * (q 0).val = (q 0).val; omega
  | ⟨1, _⟩ => show 0 + 1 * (q 1).val = (q 1).val; omega
theorem ld_ch1 (x : Vec F S2048x768 .bf16) : (View.ld (Val := Elt F) x (Rect.unit ![0, 256] S2048x256.size inb_S2048x768_S2048x256_0_256)) = ch1 x := by
  funext q
  refine congrArg x (funext fun a => Fin.ext ?_)
  match a with
  | ⟨0, _⟩ => show 0 + 1 * (q 0).val = (q 0).val; omega
  | ⟨1, _⟩ => show 256 + 1 * (q 1).val = 256 + (q 1).val; omega
theorem ld_ch2 (x : Vec F S2048x768 .bf16) : (View.ld (Val := Elt F) x (Rect.unit ![0, 512] S2048x256.size inb_S2048x768_S2048x256_0_512)) = ch2 x := by
  funext q
  refine congrArg x (funext fun a => Fin.ext ?_)
  match a with
  | ⟨0, _⟩ => show 0 + 1 * (q 0).val = (q 0).val; omega
  | ⟨1, _⟩ => show 512 + 1 * (q 1).val = 512 + (q 1).val; omega

variable {κ : Kind} {sp : Space}

section Loads
variable {m0 : Memref sig κ sp S2048x768 .bf16} (h0 : m0.IsWhole) (x : Vec F S2048x768 .bf16)
theorem rd_ch0 : View.readAt (Elt F) m0.view (Rect.unit (s := S2048x768) ![0, 0] S2048x256.size inb_S2048x768_S2048x256_0_0).toLoadRect (h0.unread x) = ch0 x := by
  rw [← ld_ch0 x]; exact congrArg (fun y => View.ld (Val := Elt F) y _) (h0.read_unread x)
theorem rd_ch1 : View.readAt (Elt F) m0.view (Rect.unit (s := S2048x768) ![0, 256] S2048x256.size inb_S2048x768_S2048x256_0_256).toLoadRect (h0.unread x) = ch1 x := by
  rw [← ld_ch1 x]; exact congrArg (fun y => View.ld (Val := Elt F) y _) (h0.read_unread x)
theorem rd_ch2 : View.readAt (Elt F) m0.view (Rect.unit (s := S2048x768) ![0, 512] S2048x256.size inb_S2048x768_S2048x256_0_512).toLoadRect (h0.unread x) = ch2 x := by
  rw [← ld_ch2 x]; exact congrArg (fun y => View.ld (Val := Elt F) y _) (h0.read_unread x)
end Loads

theorem rd_h {m0 : Memref sig κ sp S256x256 .bf16} (h0 : m0.IsWhole) (x : Vec F S256x256 .bf16) :
    View.readAt (Elt F) m0.view (Rect.unit ![0, 0] S256x256.size inb_S256x256_S256x256_0_0).toLoadRect (h0.unread x) = x :=
  (View.readAt_full m0.view _ _).trans (h0.read_unread x)
theorem rd_g {m0 : Memref sig κ sp S16x2048 .f32} (h0 : m0.IsWhole) (x : Vec F S16x2048 .f32) :
    View.readAt (Elt F) m0.view (Rect.unit ![0, 0] S16x2048.size inb_S16x2048_S16x2048_0_0).toLoadRect (h0.unread x) = x :=
  (View.readAt_full m0.view _ _).trans (h0.read_unread x)
theorem rd_s {m0 : Memref sig κ sp S1x1 .f32} (h0 : m0.IsWhole) (x : Vec F S1x1 .f32) (j) :
    View.readAt (Elt F) m0.view (Rect.unit ![0, 0] S1x1.size inb_S1x1_S1x1_0_0).toLoadRect (h0.unread x) j = x (ix2 0 0) :=
  (Memref.IsWhole.readAt_unread h0 x _ j).trans (congrArg x (funext fun a => by
    match a with
    | ⟨0, _⟩ => exact Subsingleton.elim (α := Fin 1) _ _
    | ⟨1, _⟩ => exact Subsingleton.elim (α := Fin 1) _ _))
theorem rd_slab {m0 : Memref sig κ sp S48x48x2048 .f32} (h0 : m0.IsWhole) (x : Vec F S48x48x2048 .f32) {off : Fin 3 → ℕ} (n : Fin 48)
    (hn : off = ![n.val, 0, 0]) (inb : ∀ a, off a + S1x48x2048.size a ≤ S48x48x2048.size a) :
    View.readAt (Elt F) m0.view (Rect.unit (s := S48x48x2048) off S1x48x2048.size inb).toLoadRect (h0.unread x) = slab n x := by
  subst hn
  funext q
  refine (Memref.IsWhole.readAt_unread h0 x _ q).trans (congrArg x (funext fun a => Fin.ext ?_))
  match a with
  | ⟨0, _⟩ =>
    show n.val + 1 * (q 0).val = n.val
    have : (q 0).val < 1 := (q 0).isLt
    omega
  | ⟨1, _⟩ => show 0 + 1 * (q 1).val = (q 1).val; omega
  | ⟨2, _⟩ => show 0 + 1 * (q 2).val = (q 2).val; omega
theorem rd_row {m0 : Memref sig κ sp S48x2048 .f32} (w : Vec F S48x2048 .f32) (k : Fin 48)
    (inb : ∀ a, (![k.val, 0] : Fin 2 → ℕ) a + S1x2048.size a ≤ S48x2048.size a) :
    m0.view.readCov [⟨Rect.unit ![0, 0] S48x2048.size inb_S48x2048_S48x2048_0_0, w⟩] (Rect.unit (s := S48x2048) ![k.val, 0] S1x2048.size inb).toLoadRect
      = rowL w k := by
  funext q
  unfold View.readCov
  rw [View.readAt_eq_ld, View.read_writes_full]
  refine congrArg w (funext fun a => Fin.ext ?_)
  match a with
  | ⟨0, _⟩ =>
    show k.val + 1 * (q 0).val = k.val
    have : (q 0).val < 1 := (q 0).isLt
    omega
  | ⟨1, _⟩ => show 0 + 1 * (q 1).val = (q 1).val; omega

end Cert.Kernel.Hand

end
-- ==== Proof.Kernel.Writes.lean ====
/- Hand-written, untrusted. What the body's stores leave in the block maxima's scratch and in the packed codes' block,
   as whole contents. -/
module

public import proofs.«01_k».proof.Proof.Kernel.Vals
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {κ : Kind} {sp : Space}

theorem pay1_at (v : FVec F S16x2048 .f32) (u : Fin 1) (a : Fin 16) (b : Fin 2048) : k0_pay1 v (ix3 u a b) = v (ix2 a b) := by
  unfold k0_pay1; exact ValueIdx.shapeCast_ab_1ab_apply v _ u a b
theorem pay7_at (hp : Vec F S256x256 .bf16) (x : Vec F S2048x256 .bf16) (u : Fin 1) (a : Fin 16) (b : Fin 2048) : k0_pay7 hp x (ix3 u a b) = k0_pay6 hp x (ix2 a b) := by
  unfold k0_pay7; exact ValueIdx.shapeCast_ab_1ab_apply _ _ u a b
theorem pay9_at (hp : Vec F S256x256 .bf16) (x : Vec F S2048x256 .bf16) (u : Fin 1) (a : Fin 16) (b : Fin 2048) : k0_pay9 hp x (ix3 u a b) = k0_pay6 hp x (ix2 a b) := by
  unfold k0_pay9; exact ValueIdx.shapeCast_ab_1ab_apply _ _ u a b
theorem pay11_eq (hp : Vec F S256x256 .bf16) (x : Vec F S2048x256 .bf16) : k0_pay11 hp x = k0_pay6 hp x := rfl

/-- The three stores of a tile's block maxima are the tile's row replaced. -/
theorem put7_writes {m0 : Memref sig κ sp S48x48x2048 .f32} (h0 : m0.IsWhole) (b : Vec F S48x48x2048 .f32) (hp : Vec F S256x256 .bf16) (x : Vec F S2048x768 .bf16)
    (n : Fin 48) {o1 o2 o3 : Fin 3 → ℕ} (ho1 : o1 = ![n.val, 0, 0]) (ho2 : o2 = ![n.val, 16, 0]) (ho3 : o3 = ![n.val, 32, 0])
    (i1 : ∀ a, o1 a + S1x16x2048.size a ≤ S48x48x2048.size a) (i2 : ∀ a, o2 a + S1x16x2048.size a ≤ S48x48x2048.size a) (i3 : ∀ a, o3 a + S1x16x2048.size a ≤ S48x48x2048.size a) :
    m0.view.read (Elt F) (m0.view.writes (Elt F) (h0.unread b)
      [⟨Rect.unit (s := S48x48x2048) o3 S1x16x2048.size i3, k0_pay1 (k0_pay11 hp (ch2 x))⟩, ⟨Rect.unit (s := S48x48x2048) o2 S1x16x2048.size i2, k0_pay9 hp (ch1 x)⟩, ⟨Rect.unit (s := S48x48x2048) o1 S1x16x2048.size i1, k0_pay7 hp (ch0 x)⟩])
      = put7 n.val (bmOf hp x) b := by
  funext p
  have hp0 : (p 0).val < 48 := (p 0).isLt
  have hp1 : (p 1).val < 48 := (p 1).isLt
  unfold put7
  by_cases hn : (p 0).val = n.val
  · rw [if_pos hn]
    unfold bmOf
    by_cases ha : (p 1).val < 16
    · rw [dif_pos (show ((ix2 ⟨(p 1).val, (p 1).isLt⟩ ⟨(p 2).val, (p 2).isLt⟩ : S48x2048.Idx) 0).val < 16 from ha)]
      refine Eq.trans (View.read_writes_cons_unit_of_not_mem m0.view _ i3 _ _ p ho3 1 (Or.inl (show (p 1).val < 32 by omega))) ?_
      refine Eq.trans (View.read_writes_cons_unit_of_not_mem m0.view _ i2 _ _ p ho2 1 (Or.inl (show (p 1).val < 16 by omega))) ?_
      refine Eq.trans (View.read_writes_cons_unit_of_mem m0.view _ i1 _ _ p (ix3 (0 : Fin 1) (⟨(p 1).val, ha⟩ : Fin 16) (⟨(p 2).val, (p 2).isLt⟩ : Fin 2048)) ho1 (fun a => by
          match a with
          | ⟨0, _⟩ => exact hn
          | ⟨1, _⟩ => show (p 1).val = 0 + (p 1).val; omega
          | ⟨2, _⟩ => show (p 2).val = 0 + (p 2).val; omega)) ?_
      exact pay7_at hp (ch0 x) _ _ _
    · rw [dif_neg (show ¬((ix2 ⟨(p 1).val, (p 1).isLt⟩ ⟨(p 2).val, (p 2).isLt⟩ : S48x2048.Idx) 0).val < 16 from ha)]
      by_cases hb : (p 1).val < 32
      · rw [dif_pos (show ((ix2 ⟨(p 1).val, (p 1).isLt⟩ ⟨(p 2).val, (p 2).isLt⟩ : S48x2048.Idx) 0).val < 32 from hb)]
        refine Eq.trans (View.read_writes_cons_unit_of_not_mem m0.view _ i3 _ _ p ho3 1 (Or.inl (show (p 1).val < 32 by omega))) ?_
        refine Eq.trans (View.read_writes_cons_unit_of_mem m0.view _ i2 _ _ p (ix3 (0 : Fin 1) (⟨(p 1).val - 16, by omega⟩ : Fin 16) (⟨(p 2).val, (p 2).isLt⟩ : Fin 2048)) ho2 (fun a => by
            match a with
            | ⟨0, _⟩ => exact hn
            | ⟨1, _⟩ => show (p 1).val = 16 + ((p 1).val - 16); omega
            | ⟨2, _⟩ => show (p 2).val = 0 + (p 2).val; omega)) ?_
        exact pay9_at hp (ch1 x) _ _ _
      · rw [dif_neg (show ¬((ix2 ⟨(p 1).val, (p 1).isLt⟩ ⟨(p 2).val, (p 2).isLt⟩ : S48x2048.Idx) 0).val < 32 from hb)]
        refine Eq.trans (View.read_writes_cons_unit_of_mem m0.view _ i3 _ _ p (ix3 (0 : Fin 1) (⟨(p 1).val - 32, by omega⟩ : Fin 16) (⟨(p 2).val, (p 2).isLt⟩ : Fin 2048)) ho3 (fun a => by
            match a with
            | ⟨0, _⟩ => exact hn
            | ⟨1, _⟩ => show (p 1).val = 32 + ((p 1).val - 32); omega
            | ⟨2, _⟩ => show (p 2).val = 0 + (p 2).val; omega)) ?_
        exact (pay1_at _ _ _ _).trans (congrFun (pay11_eq hp (ch2 x)) _)
  · rw [if_neg hn]
    have hne : ∀ k : ℕ, (p 0).val < (![n.val, k, 0] : Fin 3 → ℕ) 0 ∨ (![n.val, k, 0] : Fin 3 → ℕ) 0 + S1x16x2048.size 0 ≤ (p 0).val := fun k => by
      show (p 0).val < n.val ∨ n.val + 1 ≤ (p 0).val
      omega
    refine Eq.trans (View.read_writes_cons_unit_of_not_mem m0.view _ i3 _ _ p ho3 0 (hne _)) ?_
    refine Eq.trans (View.read_writes_cons_unit_of_not_mem m0.view _ i2 _ _ p ho2 0 (hne _)) ?_
    refine Eq.trans (View.read_writes_cons_unit_of_not_mem m0.view _ i1 _ _ p ho1 0 (hne _)) ?_
    exact congrFun (h0.read_unread b) p

/-- The three stores of a tile's packed codes are its whole block. -/
theorem outP_writes {m0 : Memref sig κ sp S2048x384 .i8} (f) (hn : Vec F S256x256 .bf16) (x : Vec F S2048x768 .bf16) (rr : Vec F S48x2048 .f32)
    (i1 : ∀ a, (![0, 0] : Fin 2 → ℕ) a + S2048x128.size a ≤ S2048x384.size a) (i2 : ∀ a, (![0, 128] : Fin 2 → ℕ) a + S2048x128.size a ≤ S2048x384.size a)
    (i3 : ∀ a, (![0, 256] : Fin 2 → ℕ) a + S2048x128.size a ≤ S2048x384.size a) :
    m0.view.read (Elt F) (m0.view.writes (Elt F) f
      [⟨Rect.unit (s := S2048x384) ![0, 256] S2048x128.size i3, chunkP hn (ch2 x) (fun b => rowL rr ⟨32 + b.val, by omega⟩)⟩,
       ⟨Rect.unit (s := S2048x384) ![0, 128] S2048x128.size i2, chunkP hn (ch1 x) (fun b => rowL rr ⟨16 + b.val, by omega⟩)⟩,
       ⟨Rect.unit (s := S2048x384) ![0, 0] S2048x128.size i1, chunkP hn (ch0 x) (fun b => rowL rr ⟨b.val, by omega⟩)⟩])
      = outP hn x rr := by
  funext p
  have hp1 : (p 1).val < 384 := (p 1).isLt
  unfold outP
  by_cases ha : (p 1).val < 128
  · rw [dif_pos ha]
    refine Eq.trans (View.read_writes_cons_unit_of_not_mem m0.view _ i3 _ _ p rfl 1 (Or.inl (show (p 1).val < 256 by omega))) ?_
    refine Eq.trans (View.read_writes_cons_unit_of_not_mem m0.view _ i2 _ _ p rfl 1 (Or.inl (show (p 1).val < 128 by omega))) ?_
    refine Eq.trans (View.read_writes_cons_unit_of_mem m0.view _ i1 _ _ p (ix2 (⟨(p 0).val, (p 0).isLt⟩ : Fin 2048) (⟨(p 1).val, ha⟩ : Fin 128)) rfl (fun a => by
        match a with
        | ⟨0, _⟩ => show (p 0).val = 0 + (p 0).val; omega
        | ⟨1, _⟩ => show (p 1).val = 0 + (p 1).val; omega)) ?_
    rfl
  · rw [dif_neg ha]
    by_cases hb : (p 1).val < 256
    · rw [dif_pos hb]
      refine Eq.trans (View.read_writes_cons_unit_of_not_mem m0.view _ i3 _ _ p rfl 1 (Or.inl (show (p 1).val < 256 by omega))) ?_
      refine Eq.trans (View.read_writes_cons_unit_of_mem m0.view _ i2 _ _ p (ix2 (⟨(p 0).val, (p 0).isLt⟩ : Fin 2048) (⟨(p 1).val - 128, by omega⟩ : Fin 128)) rfl (fun a => by
          match a with
          | ⟨0, _⟩ => show (p 0).val = 0 + (p 0).val; omega
          | ⟨1, _⟩ => show (p 1).val = 128 + ((p 1).val - 128); omega)) ?_
      rfl
    · rw [dif_neg hb]
      refine Eq.trans (View.read_writes_cons_unit_of_mem m0.view _ i3 _ _ p (ix2 (⟨(p 0).val, (p 0).isLt⟩ : Fin 2048) (⟨(p 1).val - 256, by omega⟩ : Fin 128)) rfl (fun a => by
          match a with
          | ⟨0, _⟩ => show (p 0).val = 0 + (p 0).val; omega
          | ⟨1, _⟩ => show (p 1).val = 256 + ((p 1).val - 256); omega)) ?_
      rfl

end Cert.Kernel.Hand

end
-- ==== Proof.Kernel.RunA.lean ====
/- Hand-written, untrusted. The body at the first point: the first tile's block maxima, and the running maximum started. -/
module

public import proofs.«01_k».proof.Proof.Kernel.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : cond1 i) (hc2 : cond2 i) (hc3 : ¬cond3 i) (hc4 : ¬cond4 i) (hc5 : ¬cond5 i) (n : Fin 48) (ho1 : k0_off1 i = ![n.val, 0, 0]) (ho2 : k0_off2 i = ![n.val, 16, 0]) (ho3 : k0_off3 i = ![n.val, 32, 0])
    (x0 : Vec F S2048x768 .bf16) (x1 : Vec F S256x256 .bf16) (b7 : Vec F S48x48x2048 .f32) (E : Set ℕ) (K : PUnit → sProp 𝕄) :
        iprop(owns (c : Thread nD τ) arg1 fullShare x0 ∗ owns (c : Thread nD τ) arg2 fullShare x1 ∗ owns (c : Thread nD τ) arg7 fullShare b7 ∗ (∃ d, owns (c : Thread nD τ) arg8 fullShare d)
            ∗ (iprop(owns (c : Thread nD τ) arg1 fullShare x0 ∗ owns (c : Thread nD τ) arg2 fullShare x1 ∗ owns (c : Thread nD τ) arg7 fullShare (put7 n.val (bmOf x1 x0) b7) ∗ owns (c : Thread nD τ) arg8 fullShare (gmA x1 x0)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f1, %hf1, H1⟩, ⟨%f7, %hf7, HS0⟩, ⟨%d8, %f8, -, HS1⟩, Hk⟩
    obtain rfl := harg1.eq_unread hf0; obtain rfl := harg2.eq_unread hf1; obtain rfl := harg7.eq_unread hf7
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      delta runA.sl.r_1
      simp only [rd_h harg2 x1, rd_ch0 harg1 x0, rd_ch1 harg1 x0, rd_ch2 harg1 x0]
      exact put7_writes harg7 b7 x1 x0 n ho1 ho2 ho3 _ _ _
    · iexists _; isplitr; swap; · iexact HS1
      ipureintro
      refine (View.read_writes_full _ _ _ _ _).trans ?_
      delta runA.sl.r runA.sl.r_1
      simp only [rd_h harg2 x1, rd_ch0 harg1 x0, rd_ch1 harg1 x0, rd_ch2 harg1 x0]
      rfl

end Cert.Kernel.Hand

end
-- ==== Proof.Kernel.RunB.lean ====
/- Hand-written, untrusted. The body at a later point of the first pass: the tile's block maxima, and the running maximum continued. -/
module

public import proofs.«01_k».proof.Proof.Kernel.RunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : cond1 i) (hc2 : ¬cond2 i) (hc3 : cond3 i) (hc4 : ¬cond4 i) (hc5 : ¬cond5 i) (n : Fin 48) (ho1 : k0_off1 i = ![n.val, 0, 0]) (ho2 : k0_off2 i = ![n.val, 16, 0]) (ho3 : k0_off3 i = ![n.val, 32, 0])
    (x0 : Vec F S2048x768 .bf16) (x1 : Vec F S256x256 .bf16) (b7 : Vec F S48x48x2048 .f32) (b8 : Vec F S16x2048 .f32) (E : Set ℕ) (K : PUnit → sProp 𝕄) :
        iprop(owns (c : Thread nD τ) arg1 fullShare x0 ∗ owns (c : Thread nD τ) arg2 fullShare x1 ∗ owns (c : Thread nD τ) arg7 fullShare b7 ∗ owns (c : Thread nD τ) arg8 fullShare b8
            ∗ (iprop(owns (c : Thread nD τ) arg1 fullShare x0 ∗ owns (c : Thread nD τ) arg2 fullShare x1 ∗ owns (c : Thread nD τ) arg7 fullShare (put7 n.val (bmOf x1 x0) b7) ∗ owns (c : Thread nD τ) arg8 fullShare (gmB x1 x0 b8)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f1, %hf1, H1⟩, ⟨%f7, %hf7, HS0⟩, ⟨%f8, %hf8, HS1⟩, Hk⟩
    obtain rfl := harg1.eq_unread hf0; obtain rfl := harg2.eq_unread hf1; obtain rfl := harg7.eq_unread hf7; obtain rfl := harg8.eq_unread hf8
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      delta runB.sl.r_1
      simp only [rd_h harg2 x1, rd_ch0 harg1 x0, rd_ch1 harg1 x0, rd_ch2 harg1 x0]
      exact put7_writes harg7 b7 x1 x0 n ho1 ho2 ho3 _ _ _
    · iexists _; isplitr; swap; · iexact HS1
      ipureintro
      refine (View.read_writes_full _ _ _ _ _).trans ?_
      rw [rd_g harg8 b8]
      delta runB.sl.r runB.sl.r_1
      simp only [rd_h harg2 x1, rd_ch0 harg1 x0, rd_ch1 harg1 x0, rd_ch2 harg1 x0]
      rfl

end Cert.Kernel.Hand

end
-- ==== Proof.Kernel.RunC.lean ====
/- Hand-written, untrusted. The body at the first pass's last point: the same, and the global scale. -/
module

public import proofs.«01_k».proof.Proof.Kernel.RunB

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : cond1 i) (hc2 : ¬cond2 i) (hc3 : cond3 i) (hc4 : cond4 i) (hc5 : ¬cond5 i) (n : Fin 48) (ho1 : k0_off1 i = ![n.val, 0, 0]) (ho2 : k0_off2 i = ![n.val, 16, 0]) (ho3 : k0_off3 i = ![n.val, 32, 0])
    (x0 : Vec F S2048x768 .bf16) (x1 : Vec F S256x256 .bf16) (b7 : Vec F S48x48x2048 .f32) (b8 : Vec F S16x2048 .f32) (E : Set ℕ) (K : PUnit → sProp 𝕄) :
        iprop(owns (c : Thread nD τ) arg1 fullShare x0 ∗ owns (c : Thread nD τ) arg2 fullShare x1 ∗ (∃ d, owns (c : Thread nD τ) arg6 fullShare d) ∗ owns (c : Thread nD τ) arg7 fullShare b7 ∗ owns (c : Thread nD τ) arg8 fullShare b8
            ∗ (iprop(owns (c : Thread nD τ) arg1 fullShare x0 ∗ owns (c : Thread nD τ) arg2 fullShare x1 ∗ owns (c : Thread nD τ) arg6 fullShare (sgOf (gmB x1 x0 b8)) ∗ owns (c : Thread nD τ) arg7 fullShare (put7 n.val (bmOf x1 x0) b7) ∗ owns (c : Thread nD τ) arg8 fullShare (gmB x1 x0 b8)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f1, %hf1, H1⟩, ⟨%d5, %f5, -, H5⟩, ⟨%f7, %hf7, HS0⟩, ⟨%f8, %hf8, HS1⟩, Hk⟩
    obtain rfl := harg1.eq_unread hf0; obtain rfl := harg2.eq_unread hf1; obtain rfl := harg7.eq_unread hf7; obtain rfl := harg8.eq_unread hf8
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H5]
    · iexists _; isplitr; swap; · iexact H5
      ipureintro
      refine (View.read_writes_full _ _ _ _ _).trans (funext fun _ => ?_)
      show k0_pay5 (runC.sl.v52 c arg1 harg1 arg2 harg2 arg8 harg8 x0 x1 b8) = k0_pay5 (gmB x1 x0 b8)
      delta runC.sl.v52 runC.sl.HS1_1
      rw [View.readCov_full, rd_g harg8 b8]
      delta runC.sl.r runC.sl.r_1
      simp only [rd_h harg2 x1, rd_ch0 harg1 x0, rd_ch1 harg1 x0, rd_ch2 harg1 x0]
      rfl
    isplitl [HS0]
    · iexists _; isplitr; swap; · iexact HS0
      ipureintro
      delta runC.sl.r_1
      simp only [rd_h harg2 x1, rd_ch0 harg1 x0, rd_ch1 harg1 x0, rd_ch2 harg1 x0]
      exact put7_writes harg7 b7 x1 x0 n ho1 ho2 ho3 _ _ _
    · iexists _; isplitr; swap; · iexact HS1
      ipureintro
      delta runC.sl.HS1_1
      refine (View.read_writes_full _ _ _ _ _).trans ?_
      rw [rd_g harg8 b8]
      delta runC.sl.r runC.sl.r_1
      simp only [rd_h harg2 x1, rd_ch0 harg1 x0, rd_ch1 harg1 x0, rd_ch2 harg1 x0]
      rfl

end Cert.Kernel.Hand

end
-- ==== Proof.Kernel.RunD.lean ====
/- Hand-written, untrusted. The body at a point of the second pass: the tile's block scales and its packed codes. -/
module

public import proofs.«01_k».proof.Proof.Kernel.RunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runD (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : ¬cond1 i) (hc5 : cond5 i) (n : Fin 48) (ho4 : k0_off4 i = ![n.val, 0, 0])
    (x0 : Vec F S2048x768 .bf16) (x2 : Vec F S256x256 .bf16) (b6 : Vec F S1x1 .f32) (b7 : Vec F S48x48x2048 .f32) (E : Set ℕ) (K : PUnit → sProp 𝕄) :
        iprop(owns (c : Thread nD τ) arg1 fullShare x0 ∗ owns (c : Thread nD τ) arg3 fullShare x2 ∗ (∃ d, owns (c : Thread nD τ) arg4 fullShare d) ∗ (∃ d, owns (c : Thread nD τ) arg5 fullShare d) ∗ owns (c : Thread nD τ) arg6 fullShare b6 ∗ owns (c : Thread nD τ) arg7 fullShare b7 ∗ (∃ d, owns (c : Thread nD τ) arg9 fullShare d)
            ∗ (iprop(owns (c : Thread nD τ) arg1 fullShare x0 ∗ owns (c : Thread nD τ) arg3 fullShare x2 ∗ owns (c : Thread nD τ) arg4 fullShare (outP x2 x0 (k0_pay14 (b6 (ix2 0 0)) (slab n b7))) ∗ owns (c : Thread nD τ) arg5 fullShare (k0_pay13 (b6 (ix2 0 0)) (slab n b7)) ∗ owns (c : Thread nD τ) arg6 fullShare b6 ∗ owns (c : Thread nD τ) arg7 fullShare b7 ∗ (∃ d, owns (c : Thread nD τ) arg9 fullShare d)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f2, %hf2, H2⟩, ⟨%d3, %f3, -, H3⟩, ⟨%d4, %f4, -, H4⟩, ⟨%f6, %hf6, H5⟩, ⟨%f7, %hf7, HS0⟩, ⟨%d9, %f9, -, HS2⟩, Hk⟩
    obtain rfl := harg1.eq_unread hf0; obtain rfl := harg3.eq_unread hf2; obtain rfl := harg6.eq_unread hf6; obtain rfl := harg7.eq_unread hf7
    sl_exec (disch := first | sl_exact hc1 | sl_exact hc5)
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; swap; · iexact H3
      ipureintro
      have hr : runD.sl.r c arg6 harg6 b6 = b6 (ix2 0 0) := by delta runD.sl.r; exact rd_s harg6 b6 _
      have hH : runD.sl.HS2_1 c i arg6 harg6 arg7 harg7 hc5 b6 b7 = [⟨Rect.unit ![0, 0] S48x2048.size inb_S48x2048_S48x2048_0_0, k0_pay14 (b6 (ix2 0 0)) (slab n b7)⟩] := by
        delta runD.sl.HS2_1; rw [hr, rd_slab harg7 b7 n ho4]
      generalize k0_pay14 (b6 (ix2 0 0)) (slab n b7) = rr at hH
      have hrow : ∀ (k : Fin 48) (inb : ∀ a, (![k.val, 0] : Fin 2 → ℕ) a + S1x2048.size a ≤ S48x2048.size a),
          arg9.view.readCov (runD.sl.HS2_1 c i arg6 harg6 arg7 harg7 hc5 b6 b7) (Rect.unit (s := S48x2048) ![k.val, 0] S1x2048.size inb).toLoadRect = rowL rr k := fun k inb => by
        rw [hH]; exact rd_row rr k inb
      have h0 : runD.sl.v38 c i arg6 harg6 arg7 harg7 arg9 hc5 b6 b7 = rowL rr ⟨0, by decide⟩ := hrow ⟨0, by decide⟩ inb_S48x2048_S1x2048_0_0
      have h1 : runD.sl.v42 c i arg6 harg6 arg7 harg7 arg9 hc5 b6 b7 = rowL rr ⟨1, by decide⟩ := hrow ⟨1, by decide⟩ inb_S48x2048_S1x2048_1_0
      have h2 : runD.sl.v46 c i arg6 harg6 arg7 harg7 arg9 hc5 b6 b7 = rowL rr ⟨2, by decide⟩ := hrow ⟨2, by decide⟩ inb_S48x2048_S1x2048_2_0
      have h3 : runD.sl.v50 c i arg6 harg6 arg7 harg7 arg9 hc5 b6 b7 = rowL rr ⟨3, by decide⟩ := hrow ⟨3, by decide⟩ inb_S48x2048_S1x2048_3_0
      have h4 : runD.sl.v54 c i arg6 harg6 arg7 harg7 arg9 hc5 b6 b7 = rowL rr ⟨4, by decide⟩ := hrow ⟨4, by decide⟩ inb_S48x2048_S1x2048_4_0
      have h5 : runD.sl.v58 c i arg6 harg6 arg7 harg7 arg9 hc5 b6 b7 = rowL rr ⟨5, by decide⟩ := hrow ⟨5, by decide⟩ inb_S48x2048_S1x2048_5_0
      have h6 : runD.sl.v62 c i arg6 harg6 arg7 harg7 arg9 hc5 b6 b7 = rowL rr ⟨6, by decide⟩ := hrow ⟨6, by decide⟩ inb_S48x2048_S1x2048_6_0
      have h7 : runD.sl.v66 c i arg6 harg6 arg7 harg7 arg9 hc5 b6 b7 = rowL rr ⟨7, by decide⟩ := hrow ⟨7, by decide⟩ inb_S48x2048_S1x2048_7_0
      have h8 : runD.sl.v70 c i arg6 harg6 arg7 harg7 arg9 hc5 b6 b7 = rowL rr ⟨8, by decide⟩ := hrow ⟨8, by decide⟩ inb_S48x2048_S1x2048_8_0
      have h9 : runD.sl.v74 c i arg6 harg6 arg7 harg7 arg9 hc5 b6 b7 = rowL rr ⟨9, by decide⟩ := hrow ⟨9, by decide⟩ inb_S48x2048_S1x2048_9_0
      have h10 : runD.sl.v78 c i arg6 harg6 arg7 harg7 arg9 hc5 b6 b7 = rowL rr ⟨10, by decide⟩ := hrow ⟨10, by decide⟩ inb_S48x2048_S1x2048_10_0
      have h11 : runD.sl.v82 c i arg6 harg6 arg7 harg7 arg9 hc5 b6 b7 = rowL rr ⟨11, by decide⟩ := hrow ⟨11, by decide⟩ inb_S48x2048_S1x2048_11_0
      have h12 : runD.sl.v86 c i arg6 harg6 arg7 harg7 arg9 hc5 b6 b7 = rowL rr ⟨12, by decide⟩ := hrow ⟨12, by decide⟩ inb_S48x2048_S1x2048_12_0
      have h13 : runD.sl.v90 c i arg6 harg6 arg7 harg7 arg9 hc5 b6 b7 = rowL rr ⟨13, by decide⟩ := hrow ⟨13, by decide⟩ inb_S48x2048_S1x2048_13_0
      have h14 : runD.sl.v94 c i arg6 harg6 arg7 harg7 arg9 hc5 b6 b7 = rowL rr ⟨14, by decide⟩ := hrow ⟨14, by decide⟩ inb_S48x2048_S1x2048_14_0
      have h15 : runD.sl.v98 c i arg6 harg6 arg7 harg7 arg9 hc5 b6 b7 = rowL rr ⟨15, by decide⟩ := hrow ⟨15, by decide⟩ inb_S48x2048_S1x2048_15_0
      have h16 : runD.sl.v171 c i arg6 harg6 arg7 harg7 arg9 hc5 b6 b7 = rowL rr ⟨16, by decide⟩ := hrow ⟨16, by decide⟩ inb_S48x2048_S1x2048_16_0
      have h17 : runD.sl.v175 c i arg6 harg6 arg7 harg7 arg9 hc5 b6 b7 = rowL rr ⟨17, by decide⟩ := hrow ⟨17, by decide⟩ inb_S48x2048_S1x2048_17_0
      have h18 : runD.sl.v179 c i arg6 harg6 arg7 harg7 arg9 hc5 b6 b7 = rowL rr ⟨18, by decide⟩ := hrow ⟨18, by decide⟩ inb_S48x2048_S1x2048_18_0
      have h19 : runD.sl.v183 c i arg6 harg6 arg7 harg7 arg9 hc5 b6 b7 = rowL rr ⟨19, by decide⟩ := hrow ⟨19, by decide⟩ inb_S48x2048_S1x2048_19_0
      have h20 : runD.sl.v187 c i arg6 harg6 arg7 harg7 arg9 hc5 b6 b7 = rowL rr ⟨20, by decide⟩ := hrow ⟨20, by decide⟩ inb_S48x2048_S1x2048_20_0
      have h21 : runD.sl.v191 c i arg6 harg6 arg7 harg7 arg9 hc5 b6 b7 = rowL rr ⟨21, by decide⟩ := hrow ⟨21, by decide⟩ inb_S48x2048_S1x2048_21_0
      have h22 : runD.sl.v195 c i arg6 harg6 arg7 harg7 arg9 hc5 b6 b7 = rowL rr ⟨22, by decide⟩ := hrow ⟨22, by decide⟩ inb_S48x2048_S1x2048_22_0
      have h23 : runD.sl.v199 c i arg6 harg6 arg7 harg7 arg9 hc5 b6 b7 = rowL rr ⟨23, by decide⟩ := hrow ⟨23, by decide⟩ inb_S48x2048_S1x2048_23_0
      have h24 : runD.sl.v203 c i arg6 harg6 arg7 harg7 arg9 hc5 b6 b7 = rowL rr ⟨24, by decide⟩ := hrow ⟨24, by decide⟩ inb_S48x2048_S1x2048_24_0
      have h25 : runD.sl.v207 c i arg6 harg6 arg7 harg7 arg9 hc5 b6 b7 = rowL rr ⟨25, by decide⟩ := hrow ⟨25, by decide⟩ inb_S48x2048_S1x2048_25_0
      have h26 : runD.sl.v211 c i arg6 harg6 arg7 harg7 arg9 hc5 b6 b7 = rowL rr ⟨26, by decide⟩ := hrow ⟨26, by decide⟩ inb_S48x2048_S1x2048_26_0
      have h27 : runD.sl.v215 c i arg6 harg6 arg7 harg7 arg9 hc5 b6 b7 = rowL rr ⟨27, by decide⟩ := hrow ⟨27, by decide⟩ inb_S48x2048_S1x2048_27_0
      have h28 : runD.sl.v219 c i arg6 harg6 arg7 harg7 arg9 hc5 b6 b7 = rowL rr ⟨28, by decide⟩ := hrow ⟨28, by decide⟩ inb_S48x2048_S1x2048_28_0
      have h29 : runD.sl.v223 c i arg6 harg6 arg7 harg7 arg9 hc5 b6 b7 = rowL rr ⟨29, by decide⟩ := hrow ⟨29, by decide⟩ inb_S48x2048_S1x2048_29_0
      have h30 : runD.sl.v227 c i arg6 harg6 arg7 harg7 arg9 hc5 b6 b7 = rowL rr ⟨30, by decide⟩ := hrow ⟨30, by decide⟩ inb_S48x2048_S1x2048_30_0
      have h31 : runD.sl.v231 c i arg6 harg6 arg7 harg7 arg9 hc5 b6 b7 = rowL rr ⟨31, by decide⟩ := hrow ⟨31, by decide⟩ inb_S48x2048_S1x2048_31_0
      have h32 : runD.sl.v304 c i arg6 harg6 arg7 harg7 arg9 hc5 b6 b7 = rowL rr ⟨32, by decide⟩ := hrow ⟨32, by decide⟩ inb_S48x2048_S1x2048_32_0
      have h33 : runD.sl.v308 c i arg6 harg6 arg7 harg7 arg9 hc5 b6 b7 = rowL rr ⟨33, by decide⟩ := hrow ⟨33, by decide⟩ inb_S48x2048_S1x2048_33_0
      have h34 : runD.sl.v312 c i arg6 harg6 arg7 harg7 arg9 hc5 b6 b7 = rowL rr ⟨34, by decide⟩ := hrow ⟨34, by decide⟩ inb_S48x2048_S1x2048_34_0
      have h35 : runD.sl.v316 c i arg6 harg6 arg7 harg7 arg9 hc5 b6 b7 = rowL rr ⟨35, by decide⟩ := hrow ⟨35, by decide⟩ inb_S48x2048_S1x2048_35_0
      have h36 : runD.sl.v320 c i arg6 harg6 arg7 harg7 arg9 hc5 b6 b7 = rowL rr ⟨36, by decide⟩ := hrow ⟨36, by decide⟩ inb_S48x2048_S1x2048_36_0
      have h37 : runD.sl.v324 c i arg6 harg6 arg7 harg7 arg9 hc5 b6 b7 = rowL rr ⟨37, by decide⟩ := hrow ⟨37, by decide⟩ inb_S48x2048_S1x2048_37_0
      have h38 : runD.sl.v328 c i arg6 harg6 arg7 harg7 arg9 hc5 b6 b7 = rowL rr ⟨38, by decide⟩ := hrow ⟨38, by decide⟩ inb_S48x2048_S1x2048_38_0
      have h39 : runD.sl.v332 c i arg6 harg6 arg7 harg7 arg9 hc5 b6 b7 = rowL rr ⟨39, by decide⟩ := hrow ⟨39, by decide⟩ inb_S48x2048_S1x2048_39_0
      have h40 : runD.sl.v336 c i arg6 harg6 arg7 harg7 arg9 hc5 b6 b7 = rowL rr ⟨40, by decide⟩ := hrow ⟨40, by decide⟩ inb_S48x2048_S1x2048_40_0
      have h41 : runD.sl.v340 c i arg6 harg6 arg7 harg7 arg9 hc5 b6 b7 = rowL rr ⟨41, by decide⟩ := hrow ⟨41, by decide⟩ inb_S48x2048_S1x2048_41_0
      have h42 : runD.sl.v344 c i arg6 harg6 arg7 harg7 arg9 hc5 b6 b7 = rowL rr ⟨42, by decide⟩ := hrow ⟨42, by decide⟩ inb_S48x2048_S1x2048_42_0
      have h43 : runD.sl.v348 c i arg6 harg6 arg7 harg7 arg9 hc5 b6 b7 = rowL rr ⟨43, by decide⟩ := hrow ⟨43, by decide⟩ inb_S48x2048_S1x2048_43_0
      have h44 : runD.sl.v352 c i arg6 harg6 arg7 harg7 arg9 hc5 b6 b7 = rowL rr ⟨44, by decide⟩ := hrow ⟨44, by decide⟩ inb_S48x2048_S1x2048_44_0
      have h45 : runD.sl.v356 c i arg6 harg6 arg7 harg7 arg9 hc5 b6 b7 = rowL rr ⟨45, by decide⟩ := hrow ⟨45, by decide⟩ inb_S48x2048_S1x2048_45_0
      have h46 : runD.sl.v360 c i arg6 harg6 arg7 harg7 arg9 hc5 b6 b7 = rowL rr ⟨46, by decide⟩ := hrow ⟨46, by decide⟩ inb_S48x2048_S1x2048_46_0
      have h47 : runD.sl.v364 c i arg6 harg6 arg7 harg7 arg9 hc5 b6 b7 = rowL rr ⟨47, by decide⟩ := hrow ⟨47, by decide⟩ inb_S48x2048_S1x2048_47_0
      delta runD.sl.r_49 runD.sl.r_48 runD.sl.r_47 runD.sl.r_46 runD.sl.r_45 runD.sl.r_44 runD.sl.r_43 runD.sl.r_42 runD.sl.r_41 runD.sl.r_40 runD.sl.r_39 runD.sl.r_38 runD.sl.r_37 runD.sl.r_36 runD.sl.r_35 runD.sl.r_34 runD.sl.r_33 runD.sl.r_32 runD.sl.r_31 runD.sl.r_30 runD.sl.r_29 runD.sl.r_28 runD.sl.r_27 runD.sl.r_26 runD.sl.r_25 runD.sl.r_24 runD.sl.r_23 runD.sl.r_22 runD.sl.r_21 runD.sl.r_20 runD.sl.r_19 runD.sl.r_18 runD.sl.r_17 runD.sl.r_16 runD.sl.r_15 runD.sl.r_14 runD.sl.r_13 runD.sl.r_12 runD.sl.r_11 runD.sl.r_10 runD.sl.r_9 runD.sl.r_8 runD.sl.r_7 runD.sl.r_6 runD.sl.r_5 runD.sl.r_4 runD.sl.r_3 runD.sl.r_2 runD.sl.r_1
      simp only [rd_h harg3 x2, rd_ch0 harg1 x0, rd_ch1 harg1 x0, rd_ch2 harg1 x0, h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47]
      exact outP_writes f3 x2 x0 rr _ _ _
    isplitl [H4]
    · iexists _; isplitr; swap; · iexact H4
      ipureintro
      refine (View.read_writes_full _ _ _ _ _).trans ?_
      rw [show runD.sl.r c arg6 harg6 b6 = b6 (ix2 0 0) by delta runD.sl.r; exact rd_s harg6 b6 _, rd_slab harg7 b7 n ho4]
    isplitl [H5]
    · iexists _; isplitr; · ipureintro; exact harg6.read_unread _
      iexact H5
    isplitl [HS0]
    · iexists _; isplitr; · ipureintro; exact harg7.read_unread _
      iexact HS0
    iexists _, _; isplitr; swap; · iexact HS2
    ipureintro; rfl

end Cert.Kernel.Hand

end
-- ==== Proof.Kernel.Body.lean ====
/- Hand-written, untrusted. The pipeline's proof data: what every buffer holds after every grid point, the invariant on
   the scratch the kernel carries between points, and the body's obligation at a generic point. -/
module

public import proofs.«01_k».proof.Proof.Kernel.RunD
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the stores go -/

theorem off1 : ∀ t : Fin cfg0.N, t.val < 48 → k0_off1 (grid0.coords t) = ![t.val, 0, 0] :=
  (by decide +kernel : ∀ t : Fin grid0.N, t.val < 48 → k0_off1 (grid0.coords t) = ![t.val, 0, 0])
theorem off2 : ∀ t : Fin cfg0.N, t.val < 48 → k0_off2 (grid0.coords t) = ![t.val, 16, 0] :=
  (by decide +kernel : ∀ t : Fin grid0.N, t.val < 48 → k0_off2 (grid0.coords t) = ![t.val, 16, 0])
theorem off3 : ∀ t : Fin cfg0.N, t.val < 48 → k0_off3 (grid0.coords t) = ![t.val, 32, 0] :=
  (by decide +kernel : ∀ t : Fin grid0.N, t.val < 48 → k0_off3 (grid0.coords t) = ![t.val, 32, 0])
theorem off4 : ∀ t : Fin cfg0.N, 48 ≤ t.val → k0_off4 (grid0.coords t) = ![t.val - 48, 0, 0] :=
  (by decide +kernel : ∀ t : Fin grid0.N, 48 ≤ t.val → k0_off4 (grid0.coords t) = ![t.val - 48, 0, 0])

theorem N96 : cfg0.N = 96 := N_0

/-! ## What the scratch and the outputs hold -/

/-- Point `n`. -/
abbrev pt (n : ℕ) (h : n < 96) : Fin cfg0.N := ⟨n, lt_of_lt_of_eq h N96.symm⟩

/-- What the kernel reads at a point: the tile, the grouped and the natural rotation. -/
def xAt (c : Dev nD) (t : Fin cfg0.N) : Vec F S2048x768 .bf16 := iblk m c 0 t
def hpAt (c : Dev nD) (t : Fin cfg0.N) : Vec F S256x256 .bf16 := iblk m c 1 t
def hnAt (c : Dev nD) (t : Fin cfg0.N) : Vec F S256x256 .bf16 := iblk m c 2 t

/-- All tiles' block maxima. -/
def allB (c : Dev nD) : Vec F S48x48x2048 .f32 := fun p =>
  bmOf (hpAt m c (pt (p 0).val (by have : (p 0).val < 48 := (p 0).isLt; omega))) (xAt m c (pt (p 0).val (by have : (p 0).val < 48 := (p 0).isLt; omega)))
    (ix2 ⟨(p 1).val, (p 1).isLt⟩ ⟨(p 2).val, (p 2).isLt⟩)

/-- The running maximum after point `n` of the first pass. -/
def gmx (c : Dev nD) : ℕ → Vec F S16x2048 .f32
  | 0 => gmA (hpAt m c (pt 0 (by omega))) (xAt m c (pt 0 (by omega)))
  | n + 1 => if h : n + 1 < 48 then gmB (hpAt m c (pt (n + 1) (by omega))) (xAt m c (pt (n + 1) (by omega))) (gmx c n) else gmx c n

theorem gmx_zero (c : Dev nD) (t : Fin cfg0.N) (h : t.val = 0) : gmx m c t.val = gmA (hpAt m c t) (xAt m c t) := by
  obtain ⟨n, hn⟩ := t
  cases n with
  | zero => rfl
  | succ n => exact absurd h (by simp)

theorem gmx_lt (c : Dev nD) (t : Fin cfg0.N) (h0 : t.val ≠ 0) (h : t.val < 48) :
    gmx m c t.val = gmB (hpAt m c t) (xAt m c t) (gmx m c (t.val - 1)) := by
  obtain ⟨n, hn⟩ := t
  cases n with
  | zero => exact absurd rfl h0
  | succ n => exact dif_pos h

theorem gmx_ge (c : Dev nD) (t : Fin cfg0.N) (h : 48 ≤ t.val) : gmx m c t.val = gmx m c (t.val - 1) := by
  obtain ⟨n, hn⟩ := t
  cases n with
  | zero => exact absurd h (by simp)
  | succ n => exact dif_neg (by simp only at h; omega)

/-- The global scale. -/
def sgx (c : Dev nD) : Vec F S1x1 .f32 := sgOf (gmx m c 47)

/-- The tile of a point of the second pass. -/
def tileOf (t : Fin cfg0.N) : Fin 48 := ⟨t.val - 48, by have := lt_of_lt_of_eq t.isLt N96; omega⟩

/-- The second pass's outputs at a point. -/
def out3 (c : Dev nD) (t : Fin cfg0.N) : Vec F S2048x384 .i8 :=
  outP (hnAt m c t) (xAt m c t) (k0_pay14 (sgx m c (ix2 0 0)) (slab (tileOf t) (allB m c)))
def out4 (c : Dev nD) (t : Fin cfg0.N) : Vec F S1x48x2048 .fp8e4m3 := k0_pay13 (sgx m c (ix2 0 0)) (slab (tileOf t) (allB m c))

/-- The tiles written so far are right. -/
def Good7 (c : Dev nD) (n : ℕ) (d : Vec F S48x48x2048 .f32) : Prop := ∀ p, (p 0).val < n → d p = allB m c p

theorem good7_put (c : Dev nD) (t : Fin cfg0.N) (d : Vec F S48x48x2048 .f32) (h : Good7 m c t.val d) :
    Good7 m c (t.val + 1) (put7 t.val (bmOf (hpAt m c t) (xAt m c t)) d) := by
  intro p hp
  unfold put7
  by_cases he : (p 0).val = t.val
  · rw [if_pos he]
    unfold allB
    have e : t = pt (p 0).val (by have : (p 0).val < 48 := (p 0).isLt; omega) := Fin.ext he.symm
    rw [← e]
  · rw [if_neg he]; exact h p (by omega)

theorem good7_all (c : Dev nD) (n : ℕ) (hn : 48 ≤ n) (d : Vec F S48x48x2048 .f32) (h : Good7 m c n d) : d = allB m c :=
  funext fun p => h p (by have : (p 0).val < 48 := (p 0).isLt; omega)

/-- The invariant before point `n`: before the first, every scratch buffer at anything; afterwards the block maxima
    right for the tiles done, the running maximum, and the reciprocals at anything. -/
def PhiS (c : Dev nD) : (n : ℕ) → n ≤ cfg0.N → sProp 𝕄
  | 0, _ => Pipeline.ΦA spec0 c
  | n + 1, hn => iprop(iprop((∃ d, ⌜Good7 m c (n + 1) d⌝ ∗ owns (c : Thread nD τ) sc0 fullShare d) ∗ owns (c : Thread nD τ) sc1 fullShare (gmx m c n) ∗ (∃ d, owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, ⌜Good7 m c (n + 1) d⌝ ∗ owns (c : Thread nD τ) sc0 fullShare d) ∗ owns (c : Thread nD τ) sc1 fullShare (gmx m c n) ∗ (∃ d, owns (c : Thread nD τ) sc2 fullShare d)) ∗ (∃ r, prngReg c r)) := rfl
theorem PhiS_pos (c : Dev nD) (n : ℕ) (h : n ≤ cfg0.N) (hz : n ≠ 0) :
    PhiS m c n h = iprop(iprop((∃ d, ⌜Good7 m c n d⌝ ∗ owns (c : Thread nD τ) sc0 fullShare d) ∗ owns (c : Thread nD τ) sc1 fullShare (gmx m c (n - 1)) ∗ (∃ d, owns (c : Thread nD τ) sc2 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => sgx m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = sgx m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem nofetch5 (t : Fin cfg0.N) : (cfg0.win 5).fetch t = false := rfl

/-- From the second pass on the global scale's buffer holds the global scale. -/
theorem before0_5 (c : Dev nD) (d) : ∀ (n : ℕ) (t : Fin cfg0.N), t.val = 48 + n → (dats m 0 c).before 5 t d = sgx m c
  | 0, t, ht => by
    rw [(dats m 0 c).before_of_pos 5 t (by omega) (nofetch5 t), flush5, if_neg (by simp only [decide_eq_true_eq]; omega)]
    unfold Dat.left
    rw [idle5, show decide (t.val - 1 ≠ 47) = false from decide_eq_false (by omega)]
    exact after0_5 m c _
  | n + 1, t, ht => by
    have hN := lt_of_lt_of_eq t.isLt N96
    rw [(dats m 0 c).before_of_pos 5 t (by omega) (nofetch5 t), flush5, if_neg (by simp only [decide_eq_true_eq]; omega)]
    unfold Dat.left
    rw [idle5, show decide (t.val - 1 ≠ 47) = true from decide_eq_true (by omega)]
    exact before0_5 c d n ⟨t.val - 1, Nat.lt_of_le_of_lt (Nat.sub_le _ _) t.isLt⟩ (by simp only; omega)

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem lv0 (c : Dev nD) (t : Fin cfg0.N) : (dats m 0 c).leavesExact 0 t = owns (c : Thread nD τ) (ms0 t) fullShare (xAt m c t) := by
  unfold Dat.leavesExact; rw [live0 t, after0_0]; rfl
theorem lv1 (c : Dev nD) (t : Fin cfg0.N) : (dats m 0 c).leavesExact 1 t = owns (c : Thread nD τ) (ms1 t) fullShare (hpAt m c t) := by
  unfold Dat.leavesExact; rw [live1 t, after0_1]; rfl
theorem lv2 (c : Dev nD) (t : Fin cfg0.N) : (dats m 0 c).leavesExact 2 t = owns (c : Thread nD τ) (ms2 t) fullShare (hnAt m c t) := by
  unfold Dat.leavesExact; rw [live2 t, after0_2]; rfl
theorem lv3_lt (c : Dev nD) (t : Fin cfg0.N) (h : t.val < 48) : (dats m 0 c).leavesExact 3 t = iprop(∃ d, owns (c : Thread nD τ) (ms3 t) fullShare ((dats m 0 c).before 3 t d)) :=
  (dats m 0 c).leavesExact_idle 3 t ((idle3 t).trans (decide_eq_true h)) ((flush3 t).trans (decide_eq_false (by omega)))
theorem lv4_lt (c : Dev nD) (t : Fin cfg0.N) (h : t.val < 48) : (dats m 0 c).leavesExact 4 t = iprop(∃ d, owns (c : Thread nD τ) (ms4 t) fullShare ((dats m 0 c).before 4 t d)) :=
  (dats m 0 c).leavesExact_idle 4 t ((idle4 t).trans (decide_eq_true h)) ((flush4 t).trans (decide_eq_false (by omega)))
theorem lv5_lt (c : Dev nD) (t : Fin cfg0.N) (h : t.val < 47) : (dats m 0 c).leavesExact 5 t = iprop(∃ d, owns (c : Thread nD τ) (ms5 t) fullShare ((dats m 0 c).before 5 t d)) :=
  (dats m 0 c).leavesExact_idle 5 t ((idle5 t).trans (decide_eq_true (by omega))) ((flush5 t).trans (decide_eq_false (by omega)))
theorem lv3_ge (c : Dev nD) (t : Fin cfg0.N) (h : 48 ≤ t.val) : (dats m 0 c).leavesExact 3 t = owns (c : Thread nD τ) (ms3 t) fullShare (out3 m c t) := by
  unfold Dat.leavesExact; rw [idle3 t, decide_eq_false (by omega : ¬t.val < 48), after0_3]
theorem lv4_ge (c : Dev nD) (t : Fin cfg0.N) (h : 48 ≤ t.val) : (dats m 0 c).leavesExact 4 t = owns (c : Thread nD τ) (ms4 t) fullShare (out4 m c t) := by
  unfold Dat.leavesExact; rw [idle4 t, decide_eq_false (by omega : ¬t.val < 48), after0_4]
theorem lv5_47 (c : Dev nD) (t : Fin cfg0.N) (h : t.val = 47) : (dats m 0 c).leavesExact 5 t = owns (c : Thread nD τ) (ms5 t) fullShare (sgx m c) := by
  unfold Dat.leavesExact; rw [idle5 t, decide_eq_false (by omega : ¬t.val ≠ 47), after0_5]
theorem lv5_ge (c : Dev nD) (t : Fin cfg0.N) (h : 48 ≤ t.val) : (owns (c : Thread nD τ) (ms5 t) fullShare (sgx m c) : sProp 𝕄) ⊢ (dats m 0 c).leavesExact 5 t := by
  unfold Dat.leavesExact; rw [idle5 t, decide_eq_true (by omega : t.val ≠ 47), flush5 t, after0_5]
  by_cases h95 : t.val = 95
  · rw [decide_eq_true h95]
  · rw [decide_eq_false h95]
    iintro H
    iexists (sgx m c)
    rw [before0_5 m c _ (t.val - 48) t (by omega)]
    iexact H

end Cert.Kernel.Hand

end
-- ==== Proof.Kernel.Sound.lean ====
/- Hand-written, untrusted. The body's obligation at every point, case by case, and the run of @main. -/
module

public import proofs.«01_k».proof.Proof.Kernel.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_lt m c t (by omega), lv4_lt m c t (by omega), lv5_lt m c t (by omega)]
  rw [PhiS_castSucc m c t, PhiS_zero m c _ _ h, PhiA0_eq, gmx_zero m c t h]
  iintro ⟨⟨⟨⟨%d7, HS0⟩, HS1, HS2⟩, Hg⟩, Ho, ⟨%d0, H0⟩, ⟨%d1, H1⟩, ⟨%d2, H2⟩, H3, H4, H5⟩
  iapply (runA c (grid0.coords t) _ _ _ _ _ _ _ _ _ _ _ _ _ _ _ _ _ _ ((hcond1 t).mpr (by omega)) ((hcond2 t).mpr (by omega)) (fun h => absurd ((hcond3 t).mp h) (by omega)) (fun h => absurd ((hcond4 t).mp h) (by omega)) (fun h => absurd ((hcond5 t).mp h) (by omega)) ⟨t.val, by omega⟩ (off1 t (by omega)) (off2 t (by omega)) (off3 t (by omega)) (xAt m c t) (hpAt m c t) d7 Set.univ _)
  isplitl [H0]; · iexact H0
  isplitl [H1]; · iexact H1
  isplitl [HS0]; · iexact HS0
  isplitl [HS1]; · iexact HS1
  iintro ⟨H0, H1, HS0, HS1⟩
  isplitl [HS0 HS1 HS2 Hg]
  · isplitl [HS0 HS1 HS2]
    · isplitl [HS0]
      · iexists _
        isplitr; swap; · iexact HS0
        ipureintro; exact good7_put m c t d7 (fun p hp => absurd hp (by omega))
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
theorem sound_B (c : Dev nD) (t : Fin cfg0.N) (h0 : t.val ≠ 0) (h : t.val < 47) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_lt m c t (by omega), lv4_lt m c t (by omega), lv5_lt m c t (by omega)]
  rw [PhiS_castSucc m c t, PhiS_pos m c _ _ h0, gmx_lt m c t h0 (by omega)]
  iintro ⟨⟨⟨⟨%d7, %hd7, HS0⟩, HS1, HS2⟩, Hg⟩, Ho, ⟨%d0, H0⟩, ⟨%d1, H1⟩, ⟨%d2, H2⟩, H3, H4, H5⟩
  iapply (runB c (grid0.coords t) _ _ _ _ _ _ _ _ _ _ _ _ _ _ _ _ _ _ ((hcond1 t).mpr (by omega)) (fun h => absurd ((hcond2 t).mp h) (by omega)) ((hcond3 t).mpr (by omega)) (fun h => absurd ((hcond4 t).mp h) (by omega)) (fun h => absurd ((hcond5 t).mp h) (by omega)) ⟨t.val, by omega⟩ (off1 t (by omega)) (off2 t (by omega)) (off3 t (by omega)) (xAt m c t) (hpAt m c t) d7 (gmx m c (t.val - 1)) Set.univ _)
  isplitl [H0]; · iexact H0
  isplitl [H1]; · iexact H1
  isplitl [HS0]; · iexact HS0
  isplitl [HS1]; · iexact HS1
  iintro ⟨H0, H1, HS0, HS1⟩
  isplitl [HS0 HS1 HS2 Hg]
  · isplitl [HS0 HS1 HS2]
    · isplitl [HS0]
      · iexists _
        isplitr; swap; · iexact HS0
        ipureintro; exact good7_put m c t d7 hd7
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem sgx_47 (c : Dev nD) (t : Fin cfg0.N) (h : t.val = 47) : sgx m c = sgOf (gmB (hpAt m c t) (xAt m c t) (gmx m c (t.val - 1))) := by
  unfold sgx; rw [← h, gmx_lt m c t (by omega) (by omega)]

set_option maxHeartbeats 1600000 in
theorem sound_C (c : Dev nD) (t : Fin cfg0.N) (h : t.val = 47) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_lt m c t (by omega), lv4_lt m c t (by omega), lv5_47 m c t h]
  rw [PhiS_castSucc m c t, PhiS_pos m c _ _ (by omega), sgx_47 m c t h, gmx_lt m c t (by omega) (by omega)]
  iintro ⟨⟨⟨⟨%d7, %hd7, HS0⟩, HS1, HS2⟩, Hg⟩, Ho, ⟨%d0, H0⟩, ⟨%d1, H1⟩, ⟨%d2, H2⟩, H3, H4, ⟨%d5, H5⟩⟩
  iapply (runC c (grid0.coords t) _ _ _ _ _ _ _ _ _ _ _ _ _ _ _ _ _ _ ((hcond1 t).mpr (by omega)) (fun h => absurd ((hcond2 t).mp h) (by omega)) ((hcond3 t).mpr (by omega)) ((hcond4 t).mpr (by omega)) (fun h => absurd ((hcond5 t).mp h) (by omega)) ⟨t.val, by omega⟩ (off1 t (by omega)) (off2 t (by omega)) (off3 t (by omega)) (xAt m c t) (hpAt m c t) d7 (gmx m c (t.val - 1)) Set.univ _)
  isplitl [H0]; · iexact H0
  isplitl [H1]; · iexact H1
  isplitl [H5]; · iexists _; iexact H5
  isplitl [HS0]; · iexact HS0
  isplitl [HS1]; · iexact HS1
  iintro ⟨H0, H1, H5, HS0, HS1⟩
  isplitl [HS0 HS1 HS2 Hg]
  · isplitl [HS0 HS1 HS2]
    · isplitl [HS0]
      · iexists _
        isplitr; swap; · iexact HS0
        ipureintro; exact good7_put m c t d7 hd7
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
theorem sound_D (c : Dev nD) (t : Fin cfg0.N) (h : 48 ≤ t.val) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2, before0_5 m c _ (t.val - 48) t (by omega)]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_ge m c t h, lv4_ge m c t h]
  rw [PhiS_castSucc m c t, PhiS_pos m c _ _ (by omega), gmx_ge m c t h]
  iintro ⟨⟨⟨⟨%d7, %hd7, HS0⟩, HS1, HS2⟩, Hg⟩, Ho, ⟨%d0, H0⟩, ⟨%d1, H1⟩, ⟨%d2, H2⟩, ⟨%d3, H3⟩, ⟨%d4, H4⟩, ⟨%d5, H5⟩⟩
  obtain rfl := good7_all m c t.val h d7 hd7
  iapply (runD c (grid0.coords t) _ _ _ _ _ _ _ _ _ _ _ _ _ _ _ _ _ _ (fun h => absurd ((hcond1 t).mp h) (by omega)) ((hcond5 t).mpr (by omega)) (tileOf t) (off4 t h) (xAt m c t) (hnAt m c t) (sgx m c) (allB m c) Set.univ _)
  isplitl [H0]; · iexact H0
  isplitl [H2]; · iexact H2
  isplitl [H3]; · iexists _; iexact H3
  isplitl [H4]; · iexists _; iexact H4
  isplitl [H5]; · iexact H5
  isplitl [HS0]; · iexact HS0
  isplitl [HS2]; · iexact HS2
  iintro ⟨H0, H2, H3, H4, H5, HS0, HS2⟩
  isplitl [HS0 HS1 HS2 Hg]
  · isplitl [HS0 HS1 HS2]
    · isplitl [HS0]
      · iexists _
        isplitr; swap; · iexact HS0
        ipureintro; exact fun _ _ => rfl
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (lv5_ge m c t h)
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h47 : t.val = 47
  · exact sound_C m c t h47
  by_cases h : t.val < 47
  · exact sound_B m c t h0 h
  · exact sound_D m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiS_pos m c _ _ (by rw [Fin.val_last, N96]; decide), PhiA0_eq]
  iintro ⟨⟨⟨%d7, -, HS0⟩, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
set_option maxHeartbeats 800000 in
/-- The run of @main: the arrays and the host's results at the named contents, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame claim: the argument array ends unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Kernel.Hand

end
-- ==== Proof.KernelIdeal.Base.lean ====
/- Hand-written, untrusted. What the runs of the kernel's body share: the branch conditions in closed form, where the
   windows are idle and written back, and the scratch operands as memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- First pass. -/
abbrev cond1 (i : grid0.Coords) : Prop := k0_cond1 i = 1#1
theorem hcond1 : ∀ t : Fin cfg0.N, cond1 (grid0.coords t) ↔ t.val < 48 :=
  (by decide +kernel : ∀ t : Fin grid0.N, cond1 (grid0.coords t) ↔ t.val < 48)
/-- The first point. -/
abbrev cond2 (i : grid0.Coords) : Prop := (Scalar.cmpi .ne (Scalar.extui (Scalar.cmpi .eq (BitVec.ofNat 32 (i 0).val) 0#32)) 0#32) = 1#1
theorem hcond2 : ∀ t : Fin cfg0.N, cond2 (grid0.coords t) ↔ t.val = 0 :=
  (by decide +kernel : ∀ t : Fin grid0.N, cond2 (grid0.coords t) ↔ t.val = 0)
/-- Any later point. -/
abbrev cond3 (i : grid0.Coords) : Prop := (Scalar.cmpi .ne (Scalar.extui (Scalar.cmpi .sgt (BitVec.ofNat 32 (i 0).val) 0#32)) 0#32) = 1#1
theorem hcond3 : ∀ t : Fin cfg0.N, cond3 (grid0.coords t) ↔ t.val ≠ 0 :=
  (by decide +kernel : ∀ t : Fin grid0.N, cond3 (grid0.coords t) ↔ t.val ≠ 0)
/-- The first pass's last point. -/
abbrev cond4 (i : grid0.Coords) : Prop := k0_cond4 i = 1#1
theorem hcond4 : ∀ t : Fin cfg0.N, cond4 (grid0.coords t) ↔ t.val = 47 :=
  (by decide +kernel : ∀ t : Fin grid0.N, cond4 (grid0.coords t) ↔ t.val = 47)
/-- Second pass. -/
abbrev cond5 (i : grid0.Coords) : Prop := k0_cond5 i = 1#1
theorem hcond5 : ∀ t : Fin cfg0.N, cond5 (grid0.coords t) ↔ 48 ≤ t.val :=
  (by decide +kernel : ∀ t : Fin grid0.N, cond5 (grid0.coords t) ↔ 48 ≤ t.val)

/-! ## Where the windows are idle, and where they are written back -/

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem idle3 : ∀ t : Fin cfg0.N, cfg0.idle 3 (grid0.coords t) = decide (t.val < 48) :=
  (by decide +kernel : ∀ t : Fin grid0.N, idle0 3 (grid0.coords t) = decide (t.val < 48))
theorem idle4 : ∀ t : Fin cfg0.N, cfg0.idle 4 (grid0.coords t) = decide (t.val < 48) :=
  (by decide +kernel : ∀ t : Fin grid0.N, idle0 4 (grid0.coords t) = decide (t.val < 48))
theorem idle5 : ∀ t : Fin cfg0.N, cfg0.idle 5 (grid0.coords t) = decide (t.val ≠ 47) :=
  (by decide +kernel : ∀ t : Fin grid0.N, idle0 5 (grid0.coords t) = decide (t.val ≠ 47))
theorem flush3 : ∀ t : Fin cfg0.N, (cfg0.win 3).flush t = decide (48 ≤ t.val) :=
  (by decide +kernel : ∀ t : Fin grid0.N, win0_3.flush t = decide (48 ≤ t.val))
theorem flush4 : ∀ t : Fin cfg0.N, (cfg0.win 4).flush t = decide (48 ≤ t.val) :=
  (by decide +kernel : ∀ t : Fin grid0.N, win0_4.flush t = decide (48 ≤ t.val))
theorem flush5 : ∀ t : Fin cfg0.N, (cfg0.win 5).flush t = decide (t.val = 95) :=
  (by decide +kernel : ∀ t : Fin grid0.N, win0_5.flush t = decide (t.val = 95))

/-! ## The staging memrefs and the scratch -/

abbrev ms0 (t : Fin cfg0.N) : Memref sig .tc .vmem S2048x768 .bf16 := win0_0.stage (cfg0.slots t 0)
abbrev ms1 (t : Fin cfg0.N) : Memref sig .tc .vmem S256x256 .bf16 := win0_1.stage (cfg0.slots t 1)
abbrev ms2 (t : Fin cfg0.N) : Memref sig .tc .vmem S256x256 .bf16 := win0_2.stage (cfg0.slots t 2)
abbrev ms3 (t : Fin cfg0.N) : Memref sig .tc .vmem S2048x384 .i8 := win0_3.stage (cfg0.slots t 3)
abbrev ms4 (t : Fin cfg0.N) : Memref sig .tc .vmem S1x48x2048 .fp8e4m3 := win0_4.stage (cfg0.slots t 4)
abbrev ms5 (t : Fin cfg0.N) : Memref sig .tc .smem S1x1 .f32 := win0_5.stage (cfg0.slots t 5)
abbrev sc0 : Memref sig .tc .vmem S48x48x2048 .f32 := Memref.whole cc0_scratch0
abbrev sc1 : Memref sig .tc .vmem S16x2048 .f32 := Memref.whole cc0_scratch1
abbrev sc2 : Memref sig .tc .vmem S48x2048 .f32 := Memref.whole cc0_scratch2

/-- The frame kit's invariant with the scratch operands as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Hand

end
-- ==== Proof.KernelIdeal.Vals.lean ====
/- Hand-written, untrusted. What the kernel computes, tile by tile, as functions of what it reads: the block maxima of
   a tile, the running maximum, the global scale, the block scales, their reciprocals and the packed codes. -/
module

public import proofs.«01_k».proof.Proof.KernelIdeal.Base
public import Idealize.ShloMosaic.Lib.ValueIdxCore
public import Idealize.ShloMosaic.Lib.VecWindow
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first pass -/

/-- The three 256-column chunks of a tile. -/
def ch0 (x : Vec F S2048x768 .bf16) : Vec F S2048x256 .bf16 := fun q => x (ix2 ⟨(q 0).val, (q 0).isLt⟩ ⟨(q 1).val, by have := ValueIdx.idx2_lt1 q; omega⟩)
def ch1 (x : Vec F S2048x768 .bf16) : Vec F S2048x256 .bf16 := fun q => x (ix2 ⟨(q 0).val, (q 0).isLt⟩ ⟨256 + (q 1).val, by have := ValueIdx.idx2_lt1 q; omega⟩)
def ch2 (x : Vec F S2048x768 .bf16) : Vec F S2048x256 .bf16 := fun q => x (ix2 ⟨(q 0).val, (q 0).isLt⟩ ⟨512 + (q 1).val, by have := ValueIdx.idx2_lt1 q; omega⟩)

/-- A tile's block maxima, block by token. -/
def bmOf (hp : Vec F S256x256 .bf16) (x : Vec F S2048x768 .bf16) : Vec F S48x2048 .f32 := fun q =>
  if h0 : (q 0).val < 16 then k0_pay6 hp (ch0 x) (ix2 ⟨(q 0).val, h0⟩ ⟨(q 1).val, ValueIdx.idx2_lt1 q⟩)
  else if h1 : (q 0).val < 32 then k0_pay6 hp (ch1 x) (ix2 ⟨(q 0).val - 16, by omega⟩ ⟨(q 1).val, ValueIdx.idx2_lt1 q⟩)
  else k0_pay6 hp (ch2 x) (ix2 ⟨(q 0).val - 32, by have := ValueIdx.idx2_lt0 q; omega⟩ ⟨(q 1).val, ValueIdx.idx2_lt1 q⟩)

/-- The block maxima of all tiles, after tile `n` has been written. -/
def put7 (n : ℕ) (B : Vec F S48x2048 .f32) (b : Vec F S48x48x2048 .f32) : Vec F S48x48x2048 .f32 := fun p =>
  if (p 0).val = n then B (ix2 ⟨(p 1).val, (p 1).isLt⟩ ⟨(p 2).val, (p 2).isLt⟩) else b p

/-- The running maximum after the first tile, and after a later one. -/
def gmA (hp : Vec F S256x256 .bf16) (x : Vec F S2048x768 .bf16) : Vec F S16x2048 .f32 :=
  k0_pay3 (k0_pay10 hp (ch0 x) hp (ch1 x)) (k0_pay11 hp (ch2 x))
def gmB (hp : Vec F S256x256 .bf16) (x : Vec F S2048x768 .bf16) (b : Vec F S16x2048 .f32) : Vec F S16x2048 .f32 :=
  k0_pay4 (k0_pay10 hp (ch0 x) hp (ch1 x)) (k0_pay11 hp (ch2 x)) b

/-- The global scale, as the one entry of its array. -/
def sgOf (b : Vec F S16x2048 .f32) : Vec F S1x1 .f32 := fun _ => k0_pay5 b

/-! ## The second pass -/

/-- Tile `n`'s block maxima out of all tiles'. -/
def slab (n : Fin 48) (b : Vec F S48x48x2048 .f32) : Vec F S1x48x2048 .f32 := fun q =>
  b (ix3 n ⟨(q 1).val, (q 1).isLt⟩ ⟨(q 2).val, (q 2).isLt⟩)

/-- Row `k` of the reciprocal scales. -/
def rowL (rr : Vec F S48x2048 .f32) (k : Fin 48) : Vec F S1x2048 .f32 := fun q => rr (ix2 k ⟨(q 1).val, (q 1).isLt⟩)

theorem slices16 : ∀ n : Fin 16, Shape.Slices S256x2048 ![16 * n.val, 0] S16x2048 := by decide

/-- The rotated rows scaled, sixteen rows to a block. -/
def zCat (y : FVec F S256x2048 .f32) (v : Fin 16 → Vec F S1x2048 .f32) : FVec F S256x2048 .f32 :=
  concatenate S256x2048 0 (List.ofFn fun n : Fin 16 => (⟨S16x2048, mulf (extractStridedSlice S16x2048 ![16 * n.val, 0] y (slices16 n)) (broadcastTo S16x2048 (v n) broadcasts_S1x2048_S16x2048)⟩ : (s : Shape) × (s.Idx → F .f32)))
    concatenates_S16x2048_S16x2048_S16x2048_S16x2048_S16x2048_S16x2048_S16x2048_S16x2048_S16x2048_S16x2048_S16x2048_S16x2048_S16x2048_S16x2048_S16x2048_S16x2048_S256x2048_d0

/-- The sign's and the first two boundaries' contributions to the codes. -/
def codesA (z : FVec F S256x2048 .f32) : IVec S256x2048 32 :=
  have cst_38 : F .f32 := Scalar.ofBits .f32 0x00000000#32
  have v104 : FVec F S256x2048 .f32 := broadcast S256x2048 cst_38
  have v105 : IVec S256x2048 1 := cmpf .olt z v104
  have v106 : IVec S256x2048 32 := broadcast S256x2048 8#32
  have v107 : IVec S256x2048 32 := broadcast S256x2048 0#32
  have v108 : IVec S256x2048 32 := select v105 v106 v107
  have cst_40 : F .f32 := Scalar.ofBits .f32 0x3E800000#32
  have v109 : FVec F S256x2048 .f32 := broadcast S256x2048 cst_40
  have v110 : IVec S256x2048 1 := cmpf .ogt (absf z) v109
  have v111 : IVec S256x2048 32 := broadcast S256x2048 1#32
  have v112 : IVec S256x2048 32 := broadcast S256x2048 0#32
  have v113 : IVec S256x2048 32 := select v110 v111 v112
  have v114 : IVec S256x2048 32 := addi v108 v113
  have cst_42 : F .f32 := Scalar.ofBits .f32 0x3FA00000#32
  have v115 : FVec F S256x2048 .f32 := broadcast S256x2048 cst_42
  have v116 : IVec S256x2048 1 := cmpf .ogt (absf z) v115
  have v117 : IVec S256x2048 32 := broadcast S256x2048 1#32
  have v118 : IVec S256x2048 32 := broadcast S256x2048 0#32
  have v119 : IVec S256x2048 32 := select v116 v117 v118
  have v120 : IVec S256x2048 32 := addi v114 v119
  v120

/-- Eight codes to a word. -/
def wordsOf (z : FVec F S256x2048 .f32) : IVec S32x2048 32 := k0_pay33 (absf z) (codesA z) (Scalar.ofBits .f32 0x40200000#32)

/-- A chunk's packed codes, token by byte. -/
def packOf (z : FVec F S256x2048 .f32) : IVec S2048x128 8 :=
  k0_pay36 (wordsOf z) (k0_pay34 (absf z) (codesA z) (Scalar.ofBits .f32 0x40200000#32)) k0_pay35

/-- Chunk `k`'s packed codes. -/
def chunkP (hn : Vec F S256x256 .bf16) (xk : Vec F S2048x256 .bf16) (v : Fin 16 → Vec F S1x2048 .f32) : IVec S2048x128 8 :=
  packOf (zCat (k0_pay15 hn xk) v)

/-- A tile's packed codes. -/
def outP (hn : Vec F S256x256 .bf16) (x : Vec F S2048x768 .bf16) (rr : Vec F S48x2048 .f32) : Vec F S2048x384 .i8 := fun p =>
  if h0 : (p 1).val < 128 then chunkP hn (ch0 x) (fun b => rowL rr ⟨b.val, by omega⟩) (ix2 ⟨(p 0).val, ValueIdx.idx2_lt0 p⟩ ⟨(p 1).val, h0⟩)
  else if h1 : (p 1).val < 256 then chunkP hn (ch1 x) (fun b => rowL rr ⟨16 + b.val, by omega⟩) (ix2 ⟨(p 0).val, ValueIdx.idx2_lt0 p⟩ ⟨(p 1).val - 128, by omega⟩)
  else chunkP hn (ch2 x) (fun b => rowL rr ⟨32 + b.val, by omega⟩) (ix2 ⟨(p 0).val, ValueIdx.idx2_lt0 p⟩ ⟨(p 1).val - 256, by have := ValueIdx.idx2_lt1 p; omega⟩)

/-! ## What loads read -/

theorem ld_ch0 (x : Vec F S2048x768 .bf16) : (View.ld (Val := Elt F) x (Rect.unit ![0, 0] S2048x256.size inb_S2048x768_S2048x256_0_0)) = ch0 x := by
  funext q
  refine congrArg x (funext fun a => Fin.ext ?_)
  match a with
  | ⟨0, _⟩ => show 0 + 1 * (q 0).val = (q 0).val; omega
  | ⟨1, _⟩ => show 0 + 1 * (q 1).val = (q 1).val; omega
theorem ld_ch1 (x : Vec F S2048x768 .bf16) : (View.ld (Val := Elt F) x (Rect.unit ![0, 256] S2048x256.size inb_S2048x768_S2048x256_0_256)) = ch1 x := by
  funext q
  refine congrArg x (funext fun a => Fin.ext ?_)
  match a with
  | ⟨0, _⟩ => show 0 + 1 * (q 0).val = (q 0).val; omega
  | ⟨1, _⟩ => show 256 + 1 * (q 1).val = 256 + (q 1).val; omega
theorem ld_ch2 (x : Vec F S2048x768 .bf16) : (View.ld (Val := Elt F) x (Rect.unit ![0, 512] S2048x256.size inb_S2048x768_S2048x256_0_512)) = ch2 x := by
  funext q
  refine congrArg x (funext fun a => Fin.ext ?_)
  match a with
  | ⟨0, _⟩ => show 0 + 1 * (q 0).val = (q 0).val; omega
  | ⟨1, _⟩ => show 512 + 1 * (q 1).val = 512 + (q 1).val; omega

variable {κ : Kind} {sp : Space}

section Loads
variable {m0 : Memref sig κ sp S2048x768 .bf16} (h0 : m0.IsWhole) (x : Vec F S2048x768 .bf16)
theorem rd_ch0 : View.readAt (Elt F) m0.view (Rect.unit (s := S2048x768) ![0, 0] S2048x256.size inb_S2048x768_S2048x256_0_0).toLoadRect (h0.unread x) = ch0 x := by
  rw [← ld_ch0 x]; exact congrArg (fun y => View.ld (Val := Elt F) y _) (h0.read_unread x)
theorem rd_ch1 : View.readAt (Elt F) m0.view (Rect.unit (s := S2048x768) ![0, 256] S2048x256.size inb_S2048x768_S2048x256_0_256).toLoadRect (h0.unread x) = ch1 x := by
  rw [← ld_ch1 x]; exact congrArg (fun y => View.ld (Val := Elt F) y _) (h0.read_unread x)
theorem rd_ch2 : View.readAt (Elt F) m0.view (Rect.unit (s := S2048x768) ![0, 512] S2048x256.size inb_S2048x768_S2048x256_0_512).toLoadRect (h0.unread x) = ch2 x := by
  rw [← ld_ch2 x]; exact congrArg (fun y => View.ld (Val := Elt F) y _) (h0.read_unread x)
end Loads

theorem rd_h {m0 : Memref sig κ sp S256x256 .bf16} (h0 : m0.IsWhole) (x : Vec F S256x256 .bf16) :
    View.readAt (Elt F) m0.view (Rect.unit ![0, 0] S256x256.size inb_S256x256_S256x256_0_0).toLoadRect (h0.unread x) = x :=
  (View.readAt_full m0.view _ _).trans (h0.read_unread x)
theorem rd_g {m0 : Memref sig κ sp S16x2048 .f32} (h0 : m0.IsWhole) (x : Vec F S16x2048 .f32) :
    View.readAt (Elt F) m0.view (Rect.unit ![0, 0] S16x2048.size inb_S16x2048_S16x2048_0_0).toLoadRect (h0.unread x) = x :=
  (View.readAt_full m0.view _ _).trans (h0.read_unread x)
theorem rd_s {m0 : Memref sig κ sp S1x1 .f32} (h0 : m0.IsWhole) (x : Vec F S1x1 .f32) (j) :
    View.readAt (Elt F) m0.view (Rect.unit ![0, 0] S1x1.size inb_S1x1_S1x1_0_0).toLoadRect (h0.unread x) j = x (ix2 0 0) :=
  (Memref.IsWhole.readAt_unread h0 x _ j).trans (congrArg x (funext fun a => by
    match a with
    | ⟨0, _⟩ => exact Subsingleton.elim (α := Fin 1) _ _
    | ⟨1, _⟩ => exact Subsingleton.elim (α := Fin 1) _ _))
theorem rd_slab {m0 : Memref sig κ sp S48x48x2048 .f32} (h0 : m0.IsWhole) (x : Vec F S48x48x2048 .f32) {off : Fin 3 → ℕ} (n : Fin 48)
    (hn : off = ![n.val, 0, 0]) (inb : ∀ a, off a + S1x48x2048.size a ≤ S48x48x2048.size a) :
    View.readAt (Elt F) m0.view (Rect.unit (s := S48x48x2048) off S1x48x2048.size inb).toLoadRect (h0.unread x) = slab n x := by
  subst hn
  funext q
  refine (Memref.IsWhole.readAt_unread h0 x _ q).trans (congrArg x (funext fun a => Fin.ext ?_))
  match a with
  | ⟨0, _⟩ =>
    show n.val + 1 * (q 0).val = n.val
    have : (q 0).val < 1 := (q 0).isLt
    omega
  | ⟨1, _⟩ => show 0 + 1 * (q 1).val = (q 1).val; omega
  | ⟨2, _⟩ => show 0 + 1 * (q 2).val = (q 2).val; omega
theorem rd_row {m0 : Memref sig κ sp S48x2048 .f32} (w : Vec F S48x2048 .f32) (k : Fin 48)
    (inb : ∀ a, (![k.val, 0] : Fin 2 → ℕ) a + S1x2048.size a ≤ S48x2048.size a) :
    m0.view.readCov [⟨Rect.unit ![0, 0] S48x2048.size inb_S48x2048_S48x2048_0_0, w⟩] (Rect.unit (s := S48x2048) ![k.val, 0] S1x2048.size inb).toLoadRect
      = rowL w k := by
  funext q
  unfold View.readCov
  rw [View.readAt_eq_ld, View.read_writes_full]
  refine congrArg w (funext fun a => Fin.ext ?_)
  match a with
  | ⟨0, _⟩ =>
    show k.val + 1 * (q 0).val = k.val
    have : (q 0).val < 1 := (q 0).isLt
    omega
  | ⟨1, _⟩ => show 0 + 1 * (q 1).val = (q 1).val; omega

end Cert.KernelIdeal.Hand

end
-- ==== Proof.KernelIdeal.Writes.lean ====
/- Hand-written, untrusted. What the body's stores leave in the block maxima's scratch and in the packed codes' block,
   as whole contents. -/
module

public import proofs.«01_k».proof.Proof.KernelIdeal.Vals
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {κ : Kind} {sp : Space}

theorem pay1_at (v : FVec F S16x2048 .f32) (u : Fin 1) (a : Fin 16) (b : Fin 2048) : k0_pay1 v (ix3 u a b) = v (ix2 a b) := by
  unfold k0_pay1; exact ValueIdx.shapeCast_ab_1ab_apply v _ u a b
theorem pay7_at (hp : Vec F S256x256 .bf16) (x : Vec F S2048x256 .bf16) (u : Fin 1) (a : Fin 16) (b : Fin 2048) : k0_pay7 hp x (ix3 u a b) = k0_pay6 hp x (ix2 a b) := by
  unfold k0_pay7; exact ValueIdx.shapeCast_ab_1ab_apply _ _ u a b
theorem pay9_at (hp : Vec F S256x256 .bf16) (x : Vec F S2048x256 .bf16) (u : Fin 1) (a : Fin 16) (b : Fin 2048) : k0_pay9 hp x (ix3 u a b) = k0_pay6 hp x (ix2 a b) := by
  unfold k0_pay9; exact ValueIdx.shapeCast_ab_1ab_apply _ _ u a b
theorem pay11_eq (hp : Vec F S256x256 .bf16) (x : Vec F S2048x256 .bf16) : k0_pay11 hp x = k0_pay6 hp x := rfl

/-- The three stores of a tile's block maxima are the tile's row replaced. -/
theorem put7_writes {m0 : Memref sig κ sp S48x48x2048 .f32} (h0 : m0.IsWhole) (b : Vec F S48x48x2048 .f32) (hp : Vec F S256x256 .bf16) (x : Vec F S2048x768 .bf16)
    (n : Fin 48) {o1 o2 o3 : Fin 3 → ℕ} (ho1 : o1 = ![n.val, 0, 0]) (ho2 : o2 = ![n.val, 16, 0]) (ho3 : o3 = ![n.val, 32, 0])
    (i1 : ∀ a, o1 a + S1x16x2048.size a ≤ S48x48x2048.size a) (i2 : ∀ a, o2 a + S1x16x2048.size a ≤ S48x48x2048.size a) (i3 : ∀ a, o3 a + S1x16x2048.size a ≤ S48x48x2048.size a) :
    m0.view.read (Elt F) (m0.view.writes (Elt F) (h0.unread b)
      [⟨Rect.unit (s := S48x48x2048) o3 S1x16x2048.size i3, k0_pay1 (k0_pay11 hp (ch2 x))⟩, ⟨Rect.unit (s := S48x48x2048) o2 S1x16x2048.size i2, k0_pay9 hp (ch1 x)⟩, ⟨Rect.unit (s := S48x48x2048) o1 S1x16x2048.size i1, k0_pay7 hp (ch0 x)⟩])
      = put7 n.val (bmOf hp x) b := by
  funext p
  have hp0 : (p 0).val < 48 := (p 0).isLt
  have hp1 : (p 1).val < 48 := (p 1).isLt
  unfold put7
  by_cases hn : (p 0).val = n.val
  · rw [if_pos hn]
    unfold bmOf
    by_cases ha : (p 1).val < 16
    · rw [dif_pos (show ((ix2 ⟨(p 1).val, (p 1).isLt⟩ ⟨(p 2).val, (p 2).isLt⟩ : S48x2048.Idx) 0).val < 16 from ha)]
      refine Eq.trans (View.read_writes_cons_unit_of_not_mem m0.view _ i3 _ _ p ho3 1 (Or.inl (show (p 1).val < 32 by omega))) ?_
      refine Eq.trans (View.read_writes_cons_unit_of_not_mem m0.view _ i2 _ _ p ho2 1 (Or.inl (show (p 1).val < 16 by omega))) ?_
      refine Eq.trans (View.read_writes_cons_unit_of_mem m0.view _ i1 _ _ p (ix3 (0 : Fin 1) (⟨(p 1).val, ha⟩ : Fin 16) (⟨(p 2).val, (p 2).isLt⟩ : Fin 2048)) ho1 (fun a => by
          match a with
          | ⟨0, _⟩ => exact hn
          | ⟨1, _⟩ => show (p 1).val = 0 + (p 1).val; omega
          | ⟨2, _⟩ => show (p 2).val = 0 + (p 2).val; omega)) ?_
      exact pay7_at hp (ch0 x) _ _ _
    · rw [dif_neg (show ¬((ix2 ⟨(p 1).val, (p 1).isLt⟩ ⟨(p 2).val, (p 2).isLt⟩ : S48x2048.Idx) 0).val < 16 from ha)]
      by_cases hb : (p 1).val < 32
      · rw [dif_pos (show ((ix2 ⟨(p 1).val, (p 1).isLt⟩ ⟨(p 2).val, (p 2).isLt⟩ : S48x2048.Idx) 0).val < 32 from hb)]
        refine Eq.trans (View.read_writes_cons_unit_of_not_mem m0.view _ i3 _ _ p ho3 1 (Or.inl (show (p 1).val < 32 by omega))) ?_
        refine Eq.trans (View.read_writes_cons_unit_of_mem m0.view _ i2 _ _ p (ix3 (0 : Fin 1) (⟨(p 1).val - 16, by omega⟩ : Fin 16) (⟨(p 2).val, (p 2).isLt⟩ : Fin 2048)) ho2 (fun a => by
            match a with
            | ⟨0, _⟩ => exact hn
            | ⟨1, _⟩ => show (p 1).val = 16 + ((p 1).val - 16); omega
            | ⟨2, _⟩ => show (p 2).val = 0 + (p 2).val; omega)) ?_
        exact pay9_at hp (ch1 x) _ _ _
      · rw [dif_neg (show ¬((ix2 ⟨(p 1).val, (p 1).isLt⟩ ⟨(p 2).val, (p 2).isLt⟩ : S48x2048.Idx) 0).val < 32 from hb)]
        refine Eq.trans (View.read_writes_cons_unit_of_mem m0.view _ i3 _ _ p (ix3 (0 : Fin 1) (⟨(p 1).val - 32, by omega⟩ : Fin 16) (⟨(p 2).val, (p 2).isLt⟩ : Fin 2048)) ho3 (fun a => by
            match a with
            | ⟨0, _⟩ => exact hn
            | ⟨1, _⟩ => show (p 1).val = 32 + ((p 1).val - 32); omega
            | ⟨2, _⟩ => show (p 2).val = 0 + (p 2).val; omega)) ?_
        exact (pay1_at _ _ _ _).trans (congrFun (pay11_eq hp (ch2 x)) _)
  · rw [if_neg hn]
    have hne : ∀ k : ℕ, (p 0).val < (![n.val, k, 0] : Fin 3 → ℕ) 0 ∨ (![n.val, k, 0] : Fin 3 → ℕ) 0 + S1x16x2048.size 0 ≤ (p 0).val := fun k => by
      show (p 0).val < n.val ∨ n.val + 1 ≤ (p 0).val
      omega
    refine Eq.trans (View.read_writes_cons_unit_of_not_mem m0.view _ i3 _ _ p ho3 0 (hne _)) ?_
    refine Eq.trans (View.read_writes_cons_unit_of_not_mem m0.view _ i2 _ _ p ho2 0 (hne _)) ?_
    refine Eq.trans (View.read_writes_cons_unit_of_not_mem m0.view _ i1 _ _ p ho1 0 (hne _)) ?_
    exact congrFun (h0.read_unread b) p

/-- The three stores of a tile's packed codes are its whole block. -/
theorem outP_writes {m0 : Memref sig κ sp S2048x384 .i8} (f) (hn : Vec F S256x256 .bf16) (x : Vec F S2048x768 .bf16) (rr : Vec F S48x2048 .f32)
    (i1 : ∀ a, (![0, 0] : Fin 2 → ℕ) a + S2048x128.size a ≤ S2048x384.size a) (i2 : ∀ a, (![0, 128] : Fin 2 → ℕ) a + S2048x128.size a ≤ S2048x384.size a)
    (i3 : ∀ a, (![0, 256] : Fin 2 → ℕ) a + S2048x128.size a ≤ S2048x384.size a) :
    m0.view.read (Elt F) (m0.view.writes (Elt F) f
      [⟨Rect.unit (s := S2048x384) ![0, 256] S2048x128.size i3, chunkP hn (ch2 x) (fun b => rowL rr ⟨32 + b.val, by omega⟩)⟩,
       ⟨Rect.unit (s := S2048x384) ![0, 128] S2048x128.size i2, chunkP hn (ch1 x) (fun b => rowL rr ⟨16 + b.val, by omega⟩)⟩,
       ⟨Rect.unit (s := S2048x384) ![0, 0] S2048x128.size i1, chunkP hn (ch0 x) (fun b => rowL rr ⟨b.val, by omega⟩)⟩])
      = outP hn x rr := by
  funext p
  have hp1 : (p 1).val < 384 := (p 1).isLt
  unfold outP
  by_cases ha : (p 1).val < 128
  · rw [dif_pos ha]
    refine Eq.trans (View.read_writes_cons_unit_of_not_mem m0.view _ i3 _ _ p rfl 1 (Or.inl (show (p 1).val < 256 by omega))) ?_
    refine Eq.trans (View.read_writes_cons_unit_of_not_mem m0.view _ i2 _ _ p rfl 1 (Or.inl (show (p 1).val < 128 by omega))) ?_
    refine Eq.trans (View.read_writes_cons_unit_of_mem m0.view _ i1 _ _ p (ix2 (⟨(p 0).val, (p 0).isLt⟩ : Fin 2048) (⟨(p 1).val, ha⟩ : Fin 128)) rfl (fun a => by
        match a with
        | ⟨0, _⟩ => show (p 0).val = 0 + (p 0).val; omega
        | ⟨1, _⟩ => show (p 1).val = 0 + (p 1).val; omega)) ?_
    rfl
  · rw [dif_neg ha]
    by_cases hb : (p 1).val < 256
    · rw [dif_pos hb]
      refine Eq.trans (View.read_writes_cons_unit_of_not_mem m0.view _ i3 _ _ p rfl 1 (Or.inl (show (p 1).val < 256 by omega))) ?_
      refine Eq.trans (View.read_writes_cons_unit_of_mem m0.view _ i2 _ _ p (ix2 (⟨(p 0).val, (p 0).isLt⟩ : Fin 2048) (⟨(p 1).val - 128, by omega⟩ : Fin 128)) rfl (fun a => by
          match a with
          | ⟨0, _⟩ => show (p 0).val = 0 + (p 0).val; omega
          | ⟨1, _⟩ => show (p 1).val = 128 + ((p 1).val - 128); omega)) ?_
      rfl
    · rw [dif_neg hb]
      refine Eq.trans (View.read_writes_cons_unit_of_mem m0.view _ i3 _ _ p (ix2 (⟨(p 0).val, (p 0).isLt⟩ : Fin 2048) (⟨(p 1).val - 256, by omega⟩ : Fin 128)) rfl (fun a => by
          match a with
          | ⟨0, _⟩ => show (p 0).val = 0 + (p 0).val; omega
          | ⟨1, _⟩ => show (p 1).val = 256 + ((p 1).val - 256); omega)) ?_
      rfl

end Cert.KernelIdeal.Hand

end
-- ==== Proof.KernelIdeal.RunA.lean ====
/- Hand-written, untrusted. The body at the first point: the first tile's block maxima, and the running maximum started. -/
module

public import proofs.«01_k».proof.Proof.KernelIdeal.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : cond1 i) (hc2 : cond2 i) (hc3 : ¬cond3 i) (hc4 : ¬cond4 i) (hc5 : ¬cond5 i) (n : Fin 48) (ho1 : k0_off1 i = ![n.val, 0, 0]) (ho2 : k0_off2 i = ![n.val, 16, 0]) (ho3 : k0_off3 i = ![n.val, 32, 0])
    (x0 : Vec F S2048x768 .bf16) (x1 : Vec F S256x256 .bf16) (b7 : Vec F S48x48x2048 .f32) (E : Set ℕ) (K : PUnit → sProp 𝕄) :
        iprop(owns (c : Thread nD τ) arg1 fullShare x0 ∗ owns (c : Thread nD τ) arg2 fullShare x1 ∗ owns (c : Thread nD τ) arg7 fullShare b7 ∗ (∃ d, owns (c : Thread nD τ) arg8 fullShare d)
            ∗ (iprop(owns (c : Thread nD τ) arg1 fullShare x0 ∗ owns (c : Thread nD τ) arg2 fullShare x1 ∗ owns (c : Thread nD τ) arg7 fullShare (put7 n.val (bmOf x1 x0) b7) ∗ owns (c : Thread nD τ) arg8 fullShare (gmA x1 x0)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f1, %hf1, H1⟩, ⟨%f7, %hf7, HS0⟩, ⟨%d8, %f8, -, HS1⟩, Hk⟩
    obtain rfl := harg1.eq_unread hf0; obtain rfl := harg2.eq_unread hf1; obtain rfl := harg7.eq_unread hf7
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      delta runA.sl.r_1
      simp only [rd_h harg2 x1, rd_ch0 harg1 x0, rd_ch1 harg1 x0, rd_ch2 harg1 x0]
      exact put7_writes harg7 b7 x1 x0 n ho1 ho2 ho3 _ _ _
    · iexists _; isplitr; swap; · iexact HS1
      ipureintro
      refine (View.read_writes_full _ _ _ _ _).trans ?_
      delta runA.sl.r runA.sl.r_1
      simp only [rd_h harg2 x1, rd_ch0 harg1 x0, rd_ch1 harg1 x0, rd_ch2 harg1 x0]
      rfl

end Cert.KernelIdeal.Hand

end
-- ==== Proof.KernelIdeal.RunB.lean ====
/- Hand-written, untrusted. The body at a later point of the first pass: the tile's block maxima, and the running maximum continued. -/
module

public import proofs.«01_k».proof.Proof.KernelIdeal.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : cond1 i) (hc2 : ¬cond2 i) (hc3 : cond3 i) (hc4 : ¬cond4 i) (hc5 : ¬cond5 i) (n : Fin 48) (ho1 : k0_off1 i = ![n.val, 0, 0]) (ho2 : k0_off2 i = ![n.val, 16, 0]) (ho3 : k0_off3 i = ![n.val, 32, 0])
    (x0 : Vec F S2048x768 .bf16) (x1 : Vec F S256x256 .bf16) (b7 : Vec F S48x48x2048 .f32) (b8 : Vec F S16x2048 .f32) (E : Set ℕ) (K : PUnit → sProp 𝕄) :
        iprop(owns (c : Thread nD τ) arg1 fullShare x0 ∗ owns (c : Thread nD τ) arg2 fullShare x1 ∗ owns (c : Thread nD τ) arg7 fullShare b7 ∗ owns (c : Thread nD τ) arg8 fullShare b8
            ∗ (iprop(owns (c : Thread nD τ) arg1 fullShare x0 ∗ owns (c : Thread nD τ) arg2 fullShare x1 ∗ owns (c : Thread nD τ) arg7 fullShare (put7 n.val (bmOf x1 x0) b7) ∗ owns (c : Thread nD τ) arg8 fullShare (gmB x1 x0 b8)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f1, %hf1, H1⟩, ⟨%f7, %hf7, HS0⟩, ⟨%f8, %hf8, HS1⟩, Hk⟩
    obtain rfl := harg1.eq_unread hf0; obtain rfl := harg2.eq_unread hf1; obtain rfl := harg7.eq_unread hf7; obtain rfl := harg8.eq_unread hf8
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      delta runB.sl.r_1
      simp only [rd_h harg2 x1, rd_ch0 harg1 x0, rd_ch1 harg1 x0, rd_ch2 harg1 x0]
      exact put7_writes harg7 b7 x1 x0 n ho1 ho2 ho3 _ _ _
    · iexists _; isplitr; swap; · iexact HS1
      ipureintro
      refine (View.read_writes_full _ _ _ _ _).trans ?_
      rw [rd_g harg8 b8]
      delta runB.sl.r runB.sl.r_1
      simp only [rd_h harg2 x1, rd_ch0 harg1 x0, rd_ch1 harg1 x0, rd_ch2 harg1 x0]
      rfl

end Cert.KernelIdeal.Hand

end
-- ==== Proof.KernelIdeal.RunC.lean ====
/- Hand-written, untrusted. The body at the first pass's last point: the same, and the global scale. -/
module

public import proofs.«01_k».proof.Proof.KernelIdeal.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : cond1 i) (hc2 : ¬cond2 i) (hc3 : cond3 i) (hc4 : cond4 i) (hc5 : ¬cond5 i) (n : Fin 48) (ho1 : k0_off1 i = ![n.val, 0, 0]) (ho2 : k0_off2 i = ![n.val, 16, 0]) (ho3 : k0_off3 i = ![n.val, 32, 0])
    (x0 : Vec F S2048x768 .bf16) (x1 : Vec F S256x256 .bf16) (b7 : Vec F S48x48x2048 .f32) (b8 : Vec F S16x2048 .f32) (E : Set ℕ) (K : PUnit → sProp 𝕄) :
        iprop(owns (c : Thread nD τ) arg1 fullShare x0 ∗ owns (c : Thread nD τ) arg2 fullShare x1 ∗ (∃ d, owns (c : Thread nD τ) arg6 fullShare d) ∗ owns (c : Thread nD τ) arg7 fullShare b7 ∗ owns (c : Thread nD τ) arg8 fullShare b8
            ∗ (iprop(owns (c : Thread nD τ) arg1 fullShare x0 ∗ owns (c : Thread nD τ) arg2 fullShare x1 ∗ owns (c : Thread nD τ) arg6 fullShare (sgOf (gmB x1 x0 b8)) ∗ owns (c : Thread nD τ) arg7 fullShare (put7 n.val (bmOf x1 x0) b7) ∗ owns (c : Thread nD τ) arg8 fullShare (gmB x1 x0 b8)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f1, %hf1, H1⟩, ⟨%d5, %f5, -, H5⟩, ⟨%f7, %hf7, HS0⟩, ⟨%f8, %hf8, HS1⟩, Hk⟩
    obtain rfl := harg1.eq_unread hf0; obtain rfl := harg2.eq_unread hf1; obtain rfl := harg7.eq_unread hf7; obtain rfl := harg8.eq_unread hf8
    sl_exec (disch := first | sl_exact hc1 | sl_exact hc2 | sl_exact hc3 | sl_exact hc4 | sl_exact hc5)
    sl_step
    iapply Hk
    isplitl [H0]
    · iexists _; isplitr; · ipureintro; exact harg1.read_unread _
      iexact H0
    isplitl [H1]
    · iexists _; isplitr; · ipureintro; exact harg2.read_unread _
      iexact H1
    isplitl [H5]
    · iexists _; isplitr; swap; · iexact H5
      ipureintro
      refine (View.read_writes_full _ _ _ _ _).trans (funext fun _ => ?_)
      show k0_pay5 (runC.sl.v52 c arg1 harg1 arg2 harg2 arg8 harg8 x0 x1 b8) = k0_pay5 (gmB x1 x0 b8)
      delta runC.sl.v52 runC.sl.HS1_1
      rw [View.readCov_full, rd_g harg8 b8]
      delta runC.sl.r runC.sl.r_1
      simp only [rd_h harg2 x1, rd_ch0 harg1 x0, rd_ch1 harg1 x0, rd_ch2 harg1 x0]
      rfl
    isplitl [HS0]
    · iexists _; isplitr; swap; · iexact HS0
      ipureintro
      delta runC.sl.r_1
      simp only [rd_h harg2 x1, rd_ch0 harg1 x0, rd_ch1 harg1 x0, rd_ch2 harg1 x0]
      exact put7_writes harg7 b7 x1 x0 n ho1 ho2 ho3 _ _ _
    · iexists _; isplitr; swap; · iexact HS1
      ipureintro
      delta runC.sl.HS1_1
      refine (View.read_writes_full _ _ _ _ _).trans ?_
      rw [rd_g harg8 b8]
      delta runC.sl.r runC.sl.r_1
      simp only [rd_h harg2 x1, rd_ch0 harg1 x0, rd_ch1 harg1 x0, rd_ch2 harg1 x0]
      rfl

end Cert.KernelIdeal.Hand

end
-- ==== Proof.KernelIdeal.RunD.lean ====
/- Hand-written, untrusted. The body at a point of the second pass: the tile's block scales and its packed codes. -/
module

public import proofs.«01_k».proof.Proof.KernelIdeal.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runD (c : Dev nD) (i : grid0.Coords) (arg1 : Memref sig .tc .vmem S2048x768 .bf16) (harg1 : arg1.IsWhole) (arg2 : Memref sig .tc .vmem S256x256 .bf16) (harg2 : arg2.IsWhole) (arg3 : Memref sig .tc .vmem S256x256 .bf16) (harg3 : arg3.IsWhole) (arg4 : Memref sig .tc .vmem S2048x384 .i8) (harg4 : arg4.IsWhole) (arg5 : Memref sig .tc .vmem S1x48x2048 .fp8e4m3) (harg5 : arg5.IsWhole) (arg6 : Memref sig .tc .smem S1x1 .f32) (harg6 : arg6.IsWhole) (arg7 : Memref sig .tc .vmem S48x48x2048 .f32) (harg7 : arg7.IsWhole) (arg8 : Memref sig .tc .vmem S16x2048 .f32) (harg8 : arg8.IsWhole) (arg9 : Memref sig .tc .vmem S48x2048 .f32) (harg9 : arg9.IsWhole)
    (hc1 : ¬cond1 i) (hc5 : cond5 i) (n : Fin 48) (ho4 : k0_off4 i = ![n.val, 0, 0])
    (x0 : Vec F S2048x768 .bf16) (x2 : Vec F S256x256 .bf16) (b6 : Vec F S1x1 .f32) (b7 : Vec F S48x48x2048 .f32) (E : Set ℕ) (K : PUnit → sProp 𝕄) :
        iprop(owns (c : Thread nD τ) arg1 fullShare x0 ∗ owns (c : Thread nD τ) arg3 fullShare x2 ∗ (∃ d, owns (c : Thread nD τ) arg4 fullShare d) ∗ (∃ d, owns (c : Thread nD τ) arg5 fullShare d) ∗ owns (c : Thread nD τ) arg6 fullShare b6 ∗ owns (c : Thread nD τ) arg7 fullShare b7 ∗ (∃ d, owns (c : Thread nD τ) arg9 fullShare d)
            ∗ (iprop(owns (c : Thread nD τ) arg1 fullShare x0 ∗ owns (c : Thread nD τ) arg3 fullShare x2 ∗ owns (c : Thread nD τ) arg4 fullShare (outP x2 x0 (k0_pay14 (b6 (ix2 0 0)) (slab n b7))) ∗ owns (c : Thread nD τ) arg5 fullShare (k0_pay13 (b6 (ix2 0 0)) (slab n b7)) ∗ owns (c : Thread nD τ) arg6 fullShare b6 ∗ owns (c : Thread nD τ) arg7 fullShare b7 ∗ (∃ d, owns (c : Thread nD τ) arg9 fullShare d)) -∗ K ⟨⟩))
          ⊢ wp frame (wpE (defs₀ (F := F)) Variants.none c none) E (cc0_hadamard_nvfp4 i arg1 harg1 arg2 harg2 arg3 harg3 arg4 harg4 arg5 harg5 arg6 harg6 arg7 harg7 arg8 harg8 arg9 harg9) K := by
    simp only [cc0_hadamard_nvfp4_eq_skeleton]; unfold cc0_hadamard_nvfp4_skel
    unfold owns
    iintro ⟨⟨%f0, %hf0, H0⟩, ⟨%f2, %hf2, H2⟩, ⟨%d3, %f3, -, H3⟩, ⟨%d4, %f4, -, H4⟩, ⟨%f6, %hf6, H5⟩, ⟨%f7, %hf7, HS0⟩, ⟨%d9, %f9, -, HS2⟩, Hk⟩
    obtain rfl := harg1.eq_unread hf0; obtain rfl := harg3.eq_unread hf2; obtain rfl := harg6.eq_unread hf6; obtain rfl := harg7.eq_unread hf7
    sl_exec (disch := first | sl_exact hc1 | sl_exact hc5)
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; swap; · iexact H3
      ipureintro
      have hr : runD.sl.r c arg6 harg6 b6 = b6 (ix2 0 0) := by delta runD.sl.r; exact rd_s harg6 b6 _
      have hH : runD.sl.HS2_1 c i arg6 harg6 arg7 harg7 hc5 b6 b7 = [⟨Rect.unit ![0, 0] S48x2048.size inb_S48x2048_S48x2048_0_0, k0_pay14 (b6 (ix2 0 0)) (slab n b7)⟩] := by
        delta runD.sl.HS2_1; rw [hr, rd_slab harg7 b7 n ho4]
      generalize k0_pay14 (b6 (ix2 0 0)) (slab n b7) = rr at hH
      have hrow : ∀ (k : Fin 48) (inb : ∀ a, (![k.val, 0] : Fin 2 → ℕ) a + S1x2048.size a ≤ S48x2048.size a),
          arg9.view.readCov (runD.sl.HS2_1 c i arg6 harg6 arg7 harg7 hc5 b6 b7) (Rect.unit (s := S48x2048) ![k.val, 0] S1x2048.size inb).toLoadRect = rowL rr k := fun k inb => by
        rw [hH]; exact rd_row rr k inb
      have h0 : runD.sl.v38 c i arg6 harg6 arg7 harg7 arg9 hc5 b6 b7 = rowL rr ⟨0, by decide⟩ := hrow ⟨0, by decide⟩ inb_S48x2048_S1x2048_0_0
      have h1 : runD.sl.v42 c i arg6 harg6 arg7 harg7 arg9 hc5 b6 b7 = rowL rr ⟨1, by decide⟩ := hrow ⟨1, by decide⟩ inb_S48x2048_S1x2048_1_0
      have h2 : runD.sl.v46 c i arg6 harg6 arg7 harg7 arg9 hc5 b6 b7 = rowL rr ⟨2, by decide⟩ := hrow ⟨2, by decide⟩ inb_S48x2048_S1x2048_2_0
      have h3 : runD.sl.v50 c i arg6 harg6 arg7 harg7 arg9 hc5 b6 b7 = rowL rr ⟨3, by decide⟩ := hrow ⟨3, by decide⟩ inb_S48x2048_S1x2048_3_0
      have h4 : runD.sl.v54 c i arg6 harg6 arg7 harg7 arg9 hc5 b6 b7 = rowL rr ⟨4, by decide⟩ := hrow ⟨4, by decide⟩ inb_S48x2048_S1x2048_4_0
      have h5 : runD.sl.v58 c i arg6 harg6 arg7 harg7 arg9 hc5 b6 b7 = rowL rr ⟨5, by decide⟩ := hrow ⟨5, by decide⟩ inb_S48x2048_S1x2048_5_0
      have h6 : runD.sl.v62 c i arg6 harg6 arg7 harg7 arg9 hc5 b6 b7 = rowL rr ⟨6, by decide⟩ := hrow ⟨6, by decide⟩ inb_S48x2048_S1x2048_6_0
      have h7 : runD.sl.v66 c i arg6 harg6 arg7 harg7 arg9 hc5 b6 b7 = rowL rr ⟨7, by decide⟩ := hrow ⟨7, by decide⟩ inb_S48x2048_S1x2048_7_0
      have h8 : runD.sl.v70 c i arg6 harg6 arg7 harg7 arg9 hc5 b6 b7 = rowL rr ⟨8, by decide⟩ := hrow ⟨8, by decide⟩ inb_S48x2048_S1x2048_8_0
      have h9 : runD.sl.v74 c i arg6 harg6 arg7 harg7 arg9 hc5 b6 b7 = rowL rr ⟨9, by decide⟩ := hrow ⟨9, by decide⟩ inb_S48x2048_S1x2048_9_0
      have h10 : runD.sl.v78 c i arg6 harg6 arg7 harg7 arg9 hc5 b6 b7 = rowL rr ⟨10, by decide⟩ := hrow ⟨10, by decide⟩ inb_S48x2048_S1x2048_10_0
      have h11 : runD.sl.v82 c i arg6 harg6 arg7 harg7 arg9 hc5 b6 b7 = rowL rr ⟨11, by decide⟩ := hrow ⟨11, by decide⟩ inb_S48x2048_S1x2048_11_0
      have h12 : runD.sl.v86 c i arg6 harg6 arg7 harg7 arg9 hc5 b6 b7 = rowL rr ⟨12, by decide⟩ := hrow ⟨12, by decide⟩ inb_S48x2048_S1x2048_12_0
      have h13 : runD.sl.v90 c i arg6 harg6 arg7 harg7 arg9 hc5 b6 b7 = rowL rr ⟨13, by decide⟩ := hrow ⟨13, by decide⟩ inb_S48x2048_S1x2048_13_0
      have h14 : runD.sl.v94 c i arg6 harg6 arg7 harg7 arg9 hc5 b6 b7 = rowL rr ⟨14, by decide⟩ := hrow ⟨14, by decide⟩ inb_S48x2048_S1x2048_14_0
      have h15 : runD.sl.v98 c i arg6 harg6 arg7 harg7 arg9 hc5 b6 b7 = rowL rr ⟨15, by decide⟩ := hrow ⟨15, by decide⟩ inb_S48x2048_S1x2048_15_0
      have h16 : runD.sl.v171 c i arg6 harg6 arg7 harg7 arg9 hc5 b6 b7 = rowL rr ⟨16, by decide⟩ := hrow ⟨16, by decide⟩ inb_S48x2048_S1x2048_16_0
      have h17 : runD.sl.v175 c i arg6 harg6 arg7 harg7 arg9 hc5 b6 b7 = rowL rr ⟨17, by decide⟩ := hrow ⟨17, by decide⟩ inb_S48x2048_S1x2048_17_0
      have h18 : runD.sl.v179 c i arg6 harg6 arg7 harg7 arg9 hc5 b6 b7 = rowL rr ⟨18, by decide⟩ := hrow ⟨18, by decide⟩ inb_S48x2048_S1x2048_18_0
      have h19 : runD.sl.v183 c i arg6 harg6 arg7 harg7 arg9 hc5 b6 b7 = rowL rr ⟨19, by decide⟩ := hrow ⟨19, by decide⟩ inb_S48x2048_S1x2048_19_0
      have h20 : runD.sl.v187 c i arg6 harg6 arg7 harg7 arg9 hc5 b6 b7 = rowL rr ⟨20, by decide⟩ := hrow ⟨20, by decide⟩ inb_S48x2048_S1x2048_20_0
      have h21 : runD.sl.v191 c i arg6 harg6 arg7 harg7 arg9 hc5 b6 b7 = rowL rr ⟨21, by decide⟩ := hrow ⟨21, by decide⟩ inb_S48x2048_S1x2048_21_0
      have h22 : runD.sl.v195 c i arg6 harg6 arg7 harg7 arg9 hc5 b6 b7 = rowL rr ⟨22, by decide⟩ := hrow ⟨22, by decide⟩ inb_S48x2048_S1x2048_22_0
      have h23 : runD.sl.v199 c i arg6 harg6 arg7 harg7 arg9 hc5 b6 b7 = rowL rr ⟨23, by decide⟩ := hrow ⟨23, by decide⟩ inb_S48x2048_S1x2048_23_0
      have h24 : runD.sl.v203 c i arg6 harg6 arg7 harg7 arg9 hc5 b6 b7 = rowL rr ⟨24, by decide⟩ := hrow ⟨24, by decide⟩ inb_S48x2048_S1x2048_24_0
      have h25 : runD.sl.v207 c i arg6 harg6 arg7 harg7 arg9 hc5 b6 b7 = rowL rr ⟨25, by decide⟩ := hrow ⟨25, by decide⟩ inb_S48x2048_S1x2048_25_0
      have h26 : runD.sl.v211 c i arg6 harg6 arg7 harg7 arg9 hc5 b6 b7 = rowL rr ⟨26, by decide⟩ := hrow ⟨26, by decide⟩ inb_S48x2048_S1x2048_26_0
      have h27 : runD.sl.v215 c i arg6 harg6 arg7 harg7 arg9 hc5 b6 b7 = rowL rr ⟨27, by decide⟩ := hrow ⟨27, by decide⟩ inb_S48x2048_S1x2048_27_0
      have h28 : runD.sl.v219 c i arg6 harg6 arg7 harg7 arg9 hc5 b6 b7 = rowL rr ⟨28, by decide⟩ := hrow ⟨28, by decide⟩ inb_S48x2048_S1x2048_28_0
      have h29 : runD.sl.v223 c i arg6 harg6 arg7 harg7 arg9 hc5 b6 b7 = rowL rr ⟨29, by decide⟩ := hrow ⟨29, by decide⟩ inb_S48x2048_S1x2048_29_0
      have h30 : runD.sl.v227 c i arg6 harg6 arg7 harg7 arg9 hc5 b6 b7 = rowL rr ⟨30, by decide⟩ := hrow ⟨30, by decide⟩ inb_S48x2048_S1x2048_30_0
      have h31 : runD.sl.v231 c i arg6 harg6 arg7 harg7 arg9 hc5 b6 b7 = rowL rr ⟨31, by decide⟩ := hrow ⟨31, by decide⟩ inb_S48x2048_S1x2048_31_0
      have h32 : runD.sl.v304 c i arg6 harg6 arg7 harg7 arg9 hc5 b6 b7 = rowL rr ⟨32, by decide⟩ := hrow ⟨32, by decide⟩ inb_S48x2048_S1x2048_32_0
      have h33 : runD.sl.v308 c i arg6 harg6 arg7 harg7 arg9 hc5 b6 b7 = rowL rr ⟨33, by decide⟩ := hrow ⟨33, by decide⟩ inb_S48x2048_S1x2048_33_0
      have h34 : runD.sl.v312 c i arg6 harg6 arg7 harg7 arg9 hc5 b6 b7 = rowL rr ⟨34, by decide⟩ := hrow ⟨34, by decide⟩ inb_S48x2048_S1x2048_34_0
      have h35 : runD.sl.v316 c i arg6 harg6 arg7 harg7 arg9 hc5 b6 b7 = rowL rr ⟨35, by decide⟩ := hrow ⟨35, by decide⟩ inb_S48x2048_S1x2048_35_0
      have h36 : runD.sl.v320 c i arg6 harg6 arg7 harg7 arg9 hc5 b6 b7 = rowL rr ⟨36, by decide⟩ := hrow ⟨36, by decide⟩ inb_S48x2048_S1x2048_36_0
      have h37 : runD.sl.v324 c i arg6 harg6 arg7 harg7 arg9 hc5 b6 b7 = rowL rr ⟨37, by decide⟩ := hrow ⟨37, by decide⟩ inb_S48x2048_S1x2048_37_0
      have h38 : runD.sl.v328 c i arg6 harg6 arg7 harg7 arg9 hc5 b6 b7 = rowL rr ⟨38, by decide⟩ := hrow ⟨38, by decide⟩ inb_S48x2048_S1x2048_38_0
      have h39 : runD.sl.v332 c i arg6 harg6 arg7 harg7 arg9 hc5 b6 b7 = rowL rr ⟨39, by decide⟩ := hrow ⟨39, by decide⟩ inb_S48x2048_S1x2048_39_0
      have h40 : runD.sl.v336 c i arg6 harg6 arg7 harg7 arg9 hc5 b6 b7 = rowL rr ⟨40, by decide⟩ := hrow ⟨40, by decide⟩ inb_S48x2048_S1x2048_40_0
      have h41 : runD.sl.v340 c i arg6 harg6 arg7 harg7 arg9 hc5 b6 b7 = rowL rr ⟨41, by decide⟩ := hrow ⟨41, by decide⟩ inb_S48x2048_S1x2048_41_0
      have h42 : runD.sl.v344 c i arg6 harg6 arg7 harg7 arg9 hc5 b6 b7 = rowL rr ⟨42, by decide⟩ := hrow ⟨42, by decide⟩ inb_S48x2048_S1x2048_42_0
      have h43 : runD.sl.v348 c i arg6 harg6 arg7 harg7 arg9 hc5 b6 b7 = rowL rr ⟨43, by decide⟩ := hrow ⟨43, by decide⟩ inb_S48x2048_S1x2048_43_0
      have h44 : runD.sl.v352 c i arg6 harg6 arg7 harg7 arg9 hc5 b6 b7 = rowL rr ⟨44, by decide⟩ := hrow ⟨44, by decide⟩ inb_S48x2048_S1x2048_44_0
      have h45 : runD.sl.v356 c i arg6 harg6 arg7 harg7 arg9 hc5 b6 b7 = rowL rr ⟨45, by decide⟩ := hrow ⟨45, by decide⟩ inb_S48x2048_S1x2048_45_0
      have h46 : runD.sl.v360 c i arg6 harg6 arg7 harg7 arg9 hc5 b6 b7 = rowL rr ⟨46, by decide⟩ := hrow ⟨46, by decide⟩ inb_S48x2048_S1x2048_46_0
      have h47 : runD.sl.v364 c i arg6 harg6 arg7 harg7 arg9 hc5 b6 b7 = rowL rr ⟨47, by decide⟩ := hrow ⟨47, by decide⟩ inb_S48x2048_S1x2048_47_0
      delta runD.sl.r_49 runD.sl.r_48 runD.sl.r_47 runD.sl.r_46 runD.sl.r_45 runD.sl.r_44 runD.sl.r_43 runD.sl.r_42 runD.sl.r_41 runD.sl.r_40 runD.sl.r_39 runD.sl.r_38 runD.sl.r_37 runD.sl.r_36 runD.sl.r_35 runD.sl.r_34 runD.sl.r_33 runD.sl.r_32 runD.sl.r_31 runD.sl.r_30 runD.sl.r_29 runD.sl.r_28 runD.sl.r_27 runD.sl.r_26 runD.sl.r_25 runD.sl.r_24 runD.sl.r_23 runD.sl.r_22 runD.sl.r_21 runD.sl.r_20 runD.sl.r_19 runD.sl.r_18 runD.sl.r_17 runD.sl.r_16 runD.sl.r_15 runD.sl.r_14 runD.sl.r_13 runD.sl.r_12 runD.sl.r_11 runD.sl.r_10 runD.sl.r_9 runD.sl.r_8 runD.sl.r_7 runD.sl.r_6 runD.sl.r_5 runD.sl.r_4 runD.sl.r_3 runD.sl.r_2 runD.sl.r_1
      simp only [rd_h harg3 x2, rd_ch0 harg1 x0, rd_ch1 harg1 x0, rd_ch2 harg1 x0, h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47]
      exact outP_writes f3 x2 x0 rr _ _ _
    isplitl [H4]
    · iexists _; isplitr; swap; · iexact H4
      ipureintro
      refine (View.read_writes_full _ _ _ _ _).trans ?_
      rw [show runD.sl.r c arg6 harg6 b6 = b6 (ix2 0 0) by delta runD.sl.r; exact rd_s harg6 b6 _, rd_slab harg7 b7 n ho4]
    isplitl [H5]
    · iexists _; isplitr; · ipureintro; exact harg6.read_unread _
      iexact H5
    isplitl [HS0]
    · iexists _; isplitr; · ipureintro; exact harg7.read_unread _
      iexact HS0
    iexists _, _; isplitr; swap; · iexact HS2
    ipureintro; rfl

end Cert.KernelIdeal.Hand

end
-- ==== Proof.KernelIdeal.Body.lean ====
/- Hand-written, untrusted. The pipeline's proof data: what every buffer holds after every grid point, the invariant on
   the scratch the kernel carries between points, and the body's obligation at a generic point. -/
module

public import proofs.«01_k».proof.Proof.KernelIdeal.RunD
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the stores go -/

theorem off1 : ∀ t : Fin cfg0.N, t.val < 48 → k0_off1 (grid0.coords t) = ![t.val, 0, 0] :=
  (by decide +kernel : ∀ t : Fin grid0.N, t.val < 48 → k0_off1 (grid0.coords t) = ![t.val, 0, 0])
theorem off2 : ∀ t : Fin cfg0.N, t.val < 48 → k0_off2 (grid0.coords t) = ![t.val, 16, 0] :=
  (by decide +kernel : ∀ t : Fin grid0.N, t.val < 48 → k0_off2 (grid0.coords t) = ![t.val, 16, 0])
theorem off3 : ∀ t : Fin cfg0.N, t.val < 48 → k0_off3 (grid0.coords t) = ![t.val, 32, 0] :=
  (by decide +kernel : ∀ t : Fin grid0.N, t.val < 48 → k0_off3 (grid0.coords t) = ![t.val, 32, 0])
theorem off4 : ∀ t : Fin cfg0.N, 48 ≤ t.val → k0_off4 (grid0.coords t) = ![t.val - 48, 0, 0] :=
  (by decide +kernel : ∀ t : Fin grid0.N, 48 ≤ t.val → k0_off4 (grid0.coords t) = ![t.val - 48, 0, 0])

theorem N96 : cfg0.N = 96 := N_0

/-! ## What the scratch and the outputs hold -/

/-- Point `n`. -/
abbrev pt (n : ℕ) (h : n < 96) : Fin cfg0.N := ⟨n, lt_of_lt_of_eq h N96.symm⟩

/-- What the kernel reads at a point: the tile, the grouped and the natural rotation. -/
def xAt (c : Dev nD) (t : Fin cfg0.N) : Vec F S2048x768 .bf16 := iblk m c 0 t
def hpAt (c : Dev nD) (t : Fin cfg0.N) : Vec F S256x256 .bf16 := iblk m c 1 t
def hnAt (c : Dev nD) (t : Fin cfg0.N) : Vec F S256x256 .bf16 := iblk m c 2 t

/-- All tiles' block maxima. -/
def allB (c : Dev nD) : Vec F S48x48x2048 .f32 := fun p =>
  bmOf (hpAt m c (pt (p 0).val (by have : (p 0).val < 48 := (p 0).isLt; omega))) (xAt m c (pt (p 0).val (by have : (p 0).val < 48 := (p 0).isLt; omega)))
    (ix2 ⟨(p 1).val, (p 1).isLt⟩ ⟨(p 2).val, (p 2).isLt⟩)

/-- The running maximum after point `n` of the first pass. -/
def gmx (c : Dev nD) : ℕ → Vec F S16x2048 .f32
  | 0 => gmA (hpAt m c (pt 0 (by omega))) (xAt m c (pt 0 (by omega)))
  | n + 1 => if h : n + 1 < 48 then gmB (hpAt m c (pt (n + 1) (by omega))) (xAt m c (pt (n + 1) (by omega))) (gmx c n) else gmx c n

theorem gmx_zero (c : Dev nD) (t : Fin cfg0.N) (h : t.val = 0) : gmx m c t.val = gmA (hpAt m c t) (xAt m c t) := by
  obtain ⟨n, hn⟩ := t
  cases n with
  | zero => rfl
  | succ n => exact absurd h (by simp)

theorem gmx_lt (c : Dev nD) (t : Fin cfg0.N) (h0 : t.val ≠ 0) (h : t.val < 48) :
    gmx m c t.val = gmB (hpAt m c t) (xAt m c t) (gmx m c (t.val - 1)) := by
  obtain ⟨n, hn⟩ := t
  cases n with
  | zero => exact absurd rfl h0
  | succ n => exact dif_pos h

theorem gmx_ge (c : Dev nD) (t : Fin cfg0.N) (h : 48 ≤ t.val) : gmx m c t.val = gmx m c (t.val - 1) := by
  obtain ⟨n, hn⟩ := t
  cases n with
  | zero => exact absurd h (by simp)
  | succ n => exact dif_neg (by simp only at h; omega)

/-- The global scale. -/
def sgx (c : Dev nD) : Vec F S1x1 .f32 := sgOf (gmx m c 47)

/-- The tile of a point of the second pass. -/
def tileOf (t : Fin cfg0.N) : Fin 48 := ⟨t.val - 48, by have := lt_of_lt_of_eq t.isLt N96; omega⟩

/-- The second pass's outputs at a point. -/
def out3 (c : Dev nD) (t : Fin cfg0.N) : Vec F S2048x384 .i8 :=
  outP (hnAt m c t) (xAt m c t) (k0_pay14 (sgx m c (ix2 0 0)) (slab (tileOf t) (allB m c)))
def out4 (c : Dev nD) (t : Fin cfg0.N) : Vec F S1x48x2048 .fp8e4m3 := k0_pay13 (sgx m c (ix2 0 0)) (slab (tileOf t) (allB m c))

/-- The tiles written so far are right. -/
def Good7 (c : Dev nD) (n : ℕ) (d : Vec F S48x48x2048 .f32) : Prop := ∀ p, (p 0).val < n → d p = allB m c p

theorem good7_put (c : Dev nD) (t : Fin cfg0.N) (d : Vec F S48x48x2048 .f32) (h : Good7 m c t.val d) :
    Good7 m c (t.val + 1) (put7 t.val (bmOf (hpAt m c t) (xAt m c t)) d) := by
  intro p hp
  unfold put7
  by_cases he : (p 0).val = t.val
  · rw [if_pos he]
    unfold allB
    have e : t = pt (p 0).val (by have : (p 0).val < 48 := (p 0).isLt; omega) := Fin.ext he.symm
    rw [← e]
  · rw [if_neg he]; exact h p (by omega)

theorem good7_all (c : Dev nD) (n : ℕ) (hn : 48 ≤ n) (d : Vec F S48x48x2048 .f32) (h : Good7 m c n d) : d = allB m c :=
  funext fun p => h p (by have : (p 0).val < 48 := (p 0).isLt; omega)

/-- The invariant before point `n`: before the first, every scratch buffer at anything; afterwards the block maxima
    right for the tiles done, the running maximum, and the reciprocals at anything. -/
def PhiS (c : Dev nD) : (n : ℕ) → n ≤ cfg0.N → sProp 𝕄
  | 0, _ => Pipeline.ΦA spec0 c
  | n + 1, hn => iprop(iprop((∃ d, ⌜Good7 m c (n + 1) d⌝ ∗ owns (c : Thread nD τ) sc0 fullShare d) ∗ owns (c : Thread nD τ) sc1 fullShare (gmx m c n) ∗ (∃ d, owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop((∃ d, ⌜Good7 m c (n + 1) d⌝ ∗ owns (c : Thread nD τ) sc0 fullShare d) ∗ owns (c : Thread nD τ) sc1 fullShare (gmx m c n) ∗ (∃ d, owns (c : Thread nD τ) sc2 fullShare d)) ∗ (∃ r, prngReg c r)) := rfl
theorem PhiS_pos (c : Dev nD) (n : ℕ) (h : n ≤ cfg0.N) (hz : n ≠ 0) :
    PhiS m c n h = iprop(iprop((∃ d, ⌜Good7 m c n d⌝ ∗ owns (c : Thread nD τ) sc0 fullShare d) ∗ owns (c : Thread nD τ) sc1 fullShare (gmx m c (n - 1)) ∗ (∃ d, owns (c : Thread nD τ) sc2 fullShare d)) ∗ (∃ r, prngReg c r)) := by
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 m c t
    | ⟨4, _⟩ => out4 m c t
    | ⟨5, _⟩ => sgx m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out3 m c t := by dsimp only [dats]
theorem after0_4 (c : Dev nD) (t : Fin cfg0.N) : (dats m 0 c).after 4 t = out4 m c t := by dsimp only [dats]
theorem after0_5 (c : Dev nD) (t : Fin cfg0.N) : (dats m 0 c).after 5 t = sgx m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem nofetch5 (t : Fin cfg0.N) : (cfg0.win 5).fetch t = false := rfl

/-- From the second pass on the global scale's buffer holds the global scale. -/
theorem before0_5 (c : Dev nD) (d) : ∀ (n : ℕ) (t : Fin cfg0.N), t.val = 48 + n → (dats m 0 c).before 5 t d = sgx m c
  | 0, t, ht => by
    rw [(dats m 0 c).before_of_pos 5 t (by omega) (nofetch5 t), flush5, if_neg (by simp only [decide_eq_true_eq]; omega)]
    unfold Dat.left
    rw [idle5, show decide (t.val - 1 ≠ 47) = false from decide_eq_false (by omega)]
    exact after0_5 m c _
  | n + 1, t, ht => by
    have hN := lt_of_lt_of_eq t.isLt N96
    rw [(dats m 0 c).before_of_pos 5 t (by omega) (nofetch5 t), flush5, if_neg (by simp only [decide_eq_true_eq]; omega)]
    unfold Dat.left
    rw [idle5, show decide (t.val - 1 ≠ 47) = true from decide_eq_true (by omega)]
    exact before0_5 c d n ⟨t.val - 1, Nat.lt_of_le_of_lt (Nat.sub_le _ _) t.isLt⟩ (by simp only; omega)

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem lv0 (c : Dev nD) (t : Fin cfg0.N) : (dats m 0 c).leavesExact 0 t = owns (c : Thread nD τ) (ms0 t) fullShare (xAt m c t) := by
  unfold Dat.leavesExact; rw [live0 t, after0_0]; rfl
theorem lv1 (c : Dev nD) (t : Fin cfg0.N) : (dats m 0 c).leavesExact 1 t = owns (c : Thread nD τ) (ms1 t) fullShare (hpAt m c t) := by
  unfold Dat.leavesExact; rw [live1 t, after0_1]; rfl
theorem lv2 (c : Dev nD) (t : Fin cfg0.N) : (dats m 0 c).leavesExact 2 t = owns (c : Thread nD τ) (ms2 t) fullShare (hnAt m c t) := by
  unfold Dat.leavesExact; rw [live2 t, after0_2]; rfl
theorem lv3_lt (c : Dev nD) (t : Fin cfg0.N) (h : t.val < 48) : (dats m 0 c).leavesExact 3 t = iprop(∃ d, owns (c : Thread nD τ) (ms3 t) fullShare ((dats m 0 c).before 3 t d)) :=
  (dats m 0 c).leavesExact_idle 3 t ((idle3 t).trans (decide_eq_true h)) ((flush3 t).trans (decide_eq_false (by omega)))
theorem lv4_lt (c : Dev nD) (t : Fin cfg0.N) (h : t.val < 48) : (dats m 0 c).leavesExact 4 t = iprop(∃ d, owns (c : Thread nD τ) (ms4 t) fullShare ((dats m 0 c).before 4 t d)) :=
  (dats m 0 c).leavesExact_idle 4 t ((idle4 t).trans (decide_eq_true h)) ((flush4 t).trans (decide_eq_false (by omega)))
theorem lv5_lt (c : Dev nD) (t : Fin cfg0.N) (h : t.val < 47) : (dats m 0 c).leavesExact 5 t = iprop(∃ d, owns (c : Thread nD τ) (ms5 t) fullShare ((dats m 0 c).before 5 t d)) :=
  (dats m 0 c).leavesExact_idle 5 t ((idle5 t).trans (decide_eq_true (by omega))) ((flush5 t).trans (decide_eq_false (by omega)))
theorem lv3_ge (c : Dev nD) (t : Fin cfg0.N) (h : 48 ≤ t.val) : (dats m 0 c).leavesExact 3 t = owns (c : Thread nD τ) (ms3 t) fullShare (out3 m c t) := by
  unfold Dat.leavesExact; rw [idle3 t, decide_eq_false (by omega : ¬t.val < 48), after0_3]
theorem lv4_ge (c : Dev nD) (t : Fin cfg0.N) (h : 48 ≤ t.val) : (dats m 0 c).leavesExact 4 t = owns (c : Thread nD τ) (ms4 t) fullShare (out4 m c t) := by
  unfold Dat.leavesExact; rw [idle4 t, decide_eq_false (by omega : ¬t.val < 48), after0_4]
theorem lv5_47 (c : Dev nD) (t : Fin cfg0.N) (h : t.val = 47) : (dats m 0 c).leavesExact 5 t = owns (c : Thread nD τ) (ms5 t) fullShare (sgx m c) := by
  unfold Dat.leavesExact; rw [idle5 t, decide_eq_false (by omega : ¬t.val ≠ 47), after0_5]
theorem lv5_ge (c : Dev nD) (t : Fin cfg0.N) (h : 48 ≤ t.val) : (owns (c : Thread nD τ) (ms5 t) fullShare (sgx m c) : sProp 𝕄) ⊢ (dats m 0 c).leavesExact 5 t := by
  unfold Dat.leavesExact; rw [idle5 t, decide_eq_true (by omega : t.val ≠ 47), flush5 t, after0_5]
  by_cases h95 : t.val = 95
  · rw [decide_eq_true h95]
  · rw [decide_eq_false h95]
    iintro H
    iexists (sgx m c)
    rw [before0_5 m c _ (t.val - 48) t (by omega)]
    iexact H

end Cert.KernelIdeal.Hand

end
-- ==== Proof.KernelIdeal.Sound.lean ====
/- Hand-written, untrusted. The body's obligation at every point, case by case, and the run of @main. -/
module

public import proofs.«01_k».proof.Proof.KernelIdeal.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
theorem sound_A (c : Dev nD) (t : Fin cfg0.N) (h : t.val = 0) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_lt m c t (by omega), lv4_lt m c t (by omega), lv5_lt m c t (by omega)]
  rw [PhiS_castSucc m c t, PhiS_zero m c _ _ h, PhiA0_eq, gmx_zero m c t h]
  iintro ⟨⟨⟨⟨%d7, HS0⟩, HS1, HS2⟩, Hg⟩, Ho, ⟨%d0, H0⟩, ⟨%d1, H1⟩, ⟨%d2, H2⟩, H3, H4, H5⟩
  iapply (runA c (grid0.coords t) _ _ _ _ _ _ _ _ _ _ _ _ _ _ _ _ _ _ ((hcond1 t).mpr (by omega)) ((hcond2 t).mpr (by omega)) (fun h => absurd ((hcond3 t).mp h) (by omega)) (fun h => absurd ((hcond4 t).mp h) (by omega)) (fun h => absurd ((hcond5 t).mp h) (by omega)) ⟨t.val, by omega⟩ (off1 t (by omega)) (off2 t (by omega)) (off3 t (by omega)) (xAt m c t) (hpAt m c t) d7 Set.univ _)
  isplitl [H0]; · iexact H0
  isplitl [H1]; · iexact H1
  isplitl [HS0]; · iexact HS0
  isplitl [HS1]; · iexact HS1
  iintro ⟨H0, H1, HS0, HS1⟩
  isplitl [HS0 HS1 HS2 Hg]
  · isplitl [HS0 HS1 HS2]
    · isplitl [HS0]
      · iexists _
        isplitr; swap; · iexact HS0
        ipureintro; exact good7_put m c t d7 (fun p hp => absurd hp (by omega))
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
theorem sound_B (c : Dev nD) (t : Fin cfg0.N) (h0 : t.val ≠ 0) (h : t.val < 47) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_lt m c t (by omega), lv4_lt m c t (by omega), lv5_lt m c t (by omega)]
  rw [PhiS_castSucc m c t, PhiS_pos m c _ _ h0, gmx_lt m c t h0 (by omega)]
  iintro ⟨⟨⟨⟨%d7, %hd7, HS0⟩, HS1, HS2⟩, Hg⟩, Ho, ⟨%d0, H0⟩, ⟨%d1, H1⟩, ⟨%d2, H2⟩, H3, H4, H5⟩
  iapply (runB c (grid0.coords t) _ _ _ _ _ _ _ _ _ _ _ _ _ _ _ _ _ _ ((hcond1 t).mpr (by omega)) (fun h => absurd ((hcond2 t).mp h) (by omega)) ((hcond3 t).mpr (by omega)) (fun h => absurd ((hcond4 t).mp h) (by omega)) (fun h => absurd ((hcond5 t).mp h) (by omega)) ⟨t.val, by omega⟩ (off1 t (by omega)) (off2 t (by omega)) (off3 t (by omega)) (xAt m c t) (hpAt m c t) d7 (gmx m c (t.val - 1)) Set.univ _)
  isplitl [H0]; · iexact H0
  isplitl [H1]; · iexact H1
  isplitl [HS0]; · iexact HS0
  isplitl [HS1]; · iexact HS1
  iintro ⟨H0, H1, HS0, HS1⟩
  isplitl [HS0 HS1 HS2 Hg]
  · isplitl [HS0 HS1 HS2]
    · isplitl [HS0]
      · iexists _
        isplitr; swap; · iexact HS0
        ipureintro; exact good7_put m c t d7 hd7
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem sgx_47 (c : Dev nD) (t : Fin cfg0.N) (h : t.val = 47) : sgx m c = sgOf (gmB (hpAt m c t) (xAt m c t) (gmx m c (t.val - 1))) := by
  unfold sgx; rw [← h, gmx_lt m c t (by omega) (by omega)]

set_option maxHeartbeats 1600000 in
theorem sound_C (c : Dev nD) (t : Fin cfg0.N) (h : t.val = 47) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_lt m c t (by omega), lv4_lt m c t (by omega), lv5_47 m c t h]
  rw [PhiS_castSucc m c t, PhiS_pos m c _ _ (by omega), sgx_47 m c t h, gmx_lt m c t (by omega) (by omega)]
  iintro ⟨⟨⟨⟨%d7, %hd7, HS0⟩, HS1, HS2⟩, Hg⟩, Ho, ⟨%d0, H0⟩, ⟨%d1, H1⟩, ⟨%d2, H2⟩, H3, H4, ⟨%d5, H5⟩⟩
  iapply (runC c (grid0.coords t) _ _ _ _ _ _ _ _ _ _ _ _ _ _ _ _ _ _ ((hcond1 t).mpr (by omega)) (fun h => absurd ((hcond2 t).mp h) (by omega)) ((hcond3 t).mpr (by omega)) ((hcond4 t).mpr (by omega)) (fun h => absurd ((hcond5 t).mp h) (by omega)) ⟨t.val, by omega⟩ (off1 t (by omega)) (off2 t (by omega)) (off3 t (by omega)) (xAt m c t) (hpAt m c t) d7 (gmx m c (t.val - 1)) Set.univ _)
  isplitl [H0]; · iexact H0
  isplitl [H1]; · iexact H1
  isplitl [H5]; · iexists _; iexact H5
  isplitl [HS0]; · iexact HS0
  isplitl [HS1]; · iexact HS1
  iintro ⟨H0, H1, H5, HS0, HS1⟩
  isplitl [HS0 HS1 HS2 Hg]
  · isplitl [HS0 HS1 HS2]
    · isplitl [HS0]
      · iexists _
        isplitr; swap; · iexact HS0
        ipureintro; exact good7_put m c t d7 hd7
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
theorem sound_D (c : Dev nD) (t : Fin cfg0.N) (h : 48 ≤ t.val) :
    bodyPre m c t ⊢ wp frame (wpE (defs₀ (F := F)) Variants.none c none) Set.univ (bodyAt0 t) (fun _ => bodyPost m c t) := by
  have hN : t.val < 96 := lt_of_lt_of_eq t.isLt N96
  unfold bodyPre bodyPost bodyAt0
  simp only [before0_0, before0_1, before0_2, before0_5 m c _ (t.val - 48) t (by omega)]
  rw [show (dats m 0 c).owesAt () t.succ = (dats m 0 c).owesAt () t.castSucc from rfl]
  rw [show (dats m 0 c).Φ t.succ = PhiS m c (t.val + 1) t.isLt from rfl, PhiS_succ]
  rw [lv0, lv1, lv2, lv3_ge m c t h, lv4_ge m c t h]
  rw [PhiS_castSucc m c t, PhiS_pos m c _ _ (by omega), gmx_ge m c t h]
  iintro ⟨⟨⟨⟨%d7, %hd7, HS0⟩, HS1, HS2⟩, Hg⟩, Ho, ⟨%d0, H0⟩, ⟨%d1, H1⟩, ⟨%d2, H2⟩, ⟨%d3, H3⟩, ⟨%d4, H4⟩, ⟨%d5, H5⟩⟩
  obtain rfl := good7_all m c t.val h d7 hd7
  iapply (runD c (grid0.coords t) _ _ _ _ _ _ _ _ _ _ _ _ _ _ _ _ _ _ (fun h => absurd ((hcond1 t).mp h) (by omega)) ((hcond5 t).mpr (by omega)) (tileOf t) (off4 t h) (xAt m c t) (hnAt m c t) (sgx m c) (allB m c) Set.univ _)
  isplitl [H0]; · iexact H0
  isplitl [H2]; · iexact H2
  isplitl [H3]; · iexists _; iexact H3
  isplitl [H4]; · iexists _; iexact H4
  isplitl [H5]; · iexact H5
  isplitl [HS0]; · iexact HS0
  isplitl [HS2]; · iexact HS2
  iintro ⟨H0, H2, H3, H4, H5, HS0, HS2⟩
  isplitl [HS0 HS1 HS2 Hg]
  · isplitl [HS0 HS1 HS2]
    · isplitl [HS0]
      · iexists _
        isplitr; swap; · iexact HS0
        ipureintro; exact fun _ _ => rfl
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (lv5_ge m c t h)
  iexact H5

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h47 : t.val = 47
  · exact sound_C m c t h47
  by_cases h : t.val < 47
  · exact sound_B m c t h0 h
  · exact sound_D m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiS_pos m c _ _ (by rw [Fin.val_last, N96]; decide), PhiA0_eq]
  iintro ⟨⟨⟨%d7, -, HS0⟩, HS1, HS2⟩, Hg⟩
  isplitl [HS0 HS1 HS2]
  · isplitl [HS0]
    · iexists _; iexact HS0
    isplitl [HS1]
    · iexists _; iexact HS1
    iexact HS2
  iexact Hg

set_option backward.isDefEq.respectTransparency.types false in
set_option maxHeartbeats 800000 in
/-- The run of @main: the arrays and the host's results at the named contents, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame claim: the argument array ends unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KernelIdeal.Hand

end
-- ==== Proof.Value.Hadamard.lean ====
/- Hand-written, untrusted. A product with a block-diagonal matrix of 16 × 16 blocks: only the sixteen columns of the
   row's own block count. -/
module

public import Idealize.ShloMosaic.PureOps.Ideal
public import Mathlib.Algebra.BigOperators.Fin
public import Mathlib.Tactic.Ring
public import Mathlib.Tactic.NormNum
public import Mathlib.Tactic.Linarith

@[expose] public section

namespace Cert.Value

/-- A sum whose terms vanish outside block `g` is the sum over the sixteen entries of block `g`. -/
theorem sum_block {M : Type*} [AddCommMonoid M] (n : ℕ) (f : Fin n → M) (g : ℕ) (hg : 16 * g + 16 ≤ n) (hf : ∀ k : Fin n, k.val / 16 ≠ g → f k = 0) :
    ∑ k, f k = ∑ i : Fin 16, f ⟨16 * g + i.val, by omega⟩ := by
  have inj : Function.Injective (fun i : Fin 16 => (⟨16 * g + i.val, by omega⟩ : Fin n)) := fun i j h => by
    have := congrArg Fin.val h
    exact Fin.ext (by simp only at this; omega)
  rw [← Finset.sum_image (f := f) (g := fun i : Fin 16 => (⟨16 * g + i.val, by omega⟩ : Fin n)) (s := Finset.univ) (fun i _ j _ h => inj h)]
  symm
  apply Finset.sum_subset (Finset.subset_univ _)
  intro k _ hk
  apply hf
  intro he
  apply hk
  rw [Finset.mem_image]
  exact ⟨⟨k.val - 16 * g, by omega⟩, Finset.mem_univ _, Fin.ext (by simp only; omega)⟩

/-- Whether `i & j` has an odd number of ones, for four-bit numbers. -/
def odd4 (i j : ℕ) : Bool := xor (xor ((i &&& j).testBit 0) ((i &&& j).testBit 1)) (xor ((i &&& j).testBit 2) ((i &&& j).testBit 3))

/-- The Hadamard rotation's entry: a quarter, with the sign of the parity of `i & j`. -/
noncomputable def h4 (i j : ℕ) : EReal := if odd4 i j then ((-1/4 : ℝ) : EReal) else ((1/4 : ℝ) : EReal)

end Cert.Value

end
-- ==== Proof.Value.Nibbles.lean ====
/- Hand-written, untrusted. Four-bit codes in a word, as natural numbers: clearing the sign bit of the codes whose
   magnitude is zero, eight codes at a time, is clearing it code by code. -/
module

public import Mathlib.Data.Nat.Bitwise
public import Mathlib.Algebra.BigOperators.Fin
public import Mathlib.Data.BitVec
public import Mathlib.Tactic.Ring
public import Mathlib.Tactic.NormNum
public import Mathlib.Tactic.Linarith

@[expose] public section

namespace Cert.Value

/-- The code with its sign bit cleared if the magnitude is zero. -/
def clean (c : ℕ) : ℕ := if c % 8 = 0 then 0 else c

/-- The low four bits and the rest of a bitwise "and" come from those of its arguments. -/
theorem land_split (a a' b b' : ℕ) (h : a < 16) (h' : a' < 16) :
    (a + 16 * b) &&& (a' + 16 * b') = (a &&& a') + 16 * (b &&& b') := by
  have e1 : ((a + 16 * b) &&& (a' + 16 * b')) % 2 ^ 4 = (a &&& a') := by
    rw [Nat.and_mod_two_pow]
    congr 1 <;> omega
  have e2 : ((a + 16 * b) &&& (a' + 16 * b')) / 2 ^ 4 = (b &&& b') := by
    rw [Nat.and_div_two_pow]
    congr 1 <;> omega
  omega

/-- The same of a bitwise "or". -/
theorem lor_split (a a' b b' : ℕ) (h : a < 16) (h' : a' < 16) :
    (a + 16 * b) ||| (a' + 16 * b') = (a ||| a') + 16 * (b ||| b') := by
  have e1 : ((a + 16 * b) ||| (a' + 16 * b')) % 2 ^ 4 = (a ||| a') := by
    rw [Nat.or_mod_two_pow]
    congr 1 <;> omega
  have e2 : ((a + 16 * b) ||| (a' + 16 * b')) / 2 ^ 4 = (b ||| b') := by
    rw [Nat.or_div_two_pow]
    congr 1 <;> omega
  omega

/-- The masking of words under the mask `m`. -/
def mask (m w : ℕ) : ℕ := w &&& (((w &&& m) + m) ||| m)

theorem mask_one : ∀ c < 16, mask 7 c = clean c := by decide
theorem mask_lo : ∀ c < 16, c &&& (((c &&& 7) + 7) ||| 7) = clean c := by decide
theorem lo_lt : ∀ c < 16, (c &&& 7) + 7 < 16 := by decide

/-- Masking a word masks its low code and the rest. -/
theorem mask_split (m a b : ℕ) (h : a < 16) : mask (7 + 16 * m) (a + 16 * b) = clean a + 16 * mask m b := by
  unfold mask
  rw [land_split a 7 b m h (by norm_num)]
  have e : (a &&& 7) + 16 * (b &&& m) + (7 + 16 * m) = ((a &&& 7) + 7) + 16 * ((b &&& m) + m) := by ring
  have l := lo_lt a h
  rw [e, lor_split _ 7 _ m l (by norm_num), land_split a _ b _ h (Nat.or_lt_two_pow (n := 4) l (by norm_num)), mask_lo a h]

/-- Eight codes as one word. -/
def word (c : Fin 8 → ℕ) : ℕ :=
  c 0 + 16 * (c 1 + 16 * (c 2 + 16 * (c 3 + 16 * (c 4 + 16 * (c 5 + 16 * (c 6 + 16 * c 7))))))

theorem sum_word (c : Fin 8 → ℕ) : ∑ k : Fin 8, c k * 16 ^ k.val = word c := by
  unfold word
  rw [Fin.sum_univ_eight]
  simp only [Fin.val_zero, Fin.val_one, Fin.val_two]
  have h3 : (3 : Fin 8).val = 3 := rfl
  have h4 : (4 : Fin 8).val = 4 := rfl
  have h5 : (5 : Fin 8).val = 5 := rfl
  have h6 : (6 : Fin 8).val = 6 := rfl
  have h7 : (7 : Fin 8).val = 7 := rfl
  rw [h3, h4, h5, h6, h7]
  ring

theorem word_lt (c : Fin 8 → ℕ) (h : ∀ k, c k < 16) : word c < 2 ^ 32 := by
  unfold word
  have := h 0; have := h 1; have := h 2; have := h 3; have := h 4; have := h 5; have := h 6; have := h 7
  omega

/-- The masked word holds the cleaned codes. -/
theorem mask_word (c : Fin 8 → ℕ) (h : ∀ k, c k < 16) : mask 0x77777777 (word c) = word (fun k => clean (c k)) := by
  unfold word
  rw [show (0x77777777 : ℕ) = 7 + 16 * (7 + 16 * (7 + 16 * (7 + 16 * (7 + 16 * (7 + 16 * (7 + 16 * 7)))))) from rfl]
  rw [mask_split _ _ _ (h 0), mask_split _ _ _ (h 1), mask_split _ _ _ (h 2), mask_split _ _ _ (h 3), mask_split _ _ _ (h 4),
    mask_split _ _ _ (h 5), mask_split _ _ _ (h 6), mask_one _ (h 7)]

/-- Byte `b` of a word of codes holds codes `2 b` and `2 b + 1`. -/
theorem byte_word (c : Fin 8 → ℕ) (h : ∀ k, c k < 16) (b : Fin 4) :
    word c / 2 ^ (8 * b.val) % 256 = c ⟨2 * b.val, by omega⟩ + 16 * c ⟨2 * b.val + 1, by omega⟩ := by
  unfold word
  have := h 0; have := h 1; have := h 2; have := h 3; have := h 4; have := h 5; have := h 6; have := h 7
  match b with
  | ⟨0, _⟩ => show _ = c 0 + 16 * c 1; norm_num; omega
  | ⟨1, _⟩ => show _ = c 2 + 16 * c 3; norm_num; omega
  | ⟨2, _⟩ => show _ = c 4 + 16 * c 5; norm_num; omega
  | ⟨3, _⟩ => show _ = c 6 + 16 * c 7; norm_num; omega

/-- The kernel's masking of a 32-bit word. -/
theorem toNat_mask (w : BitVec 32) :
    (w &&& (((w &&& 2004318071#32) + 2004318071#32) ||| 2004318071#32)).toNat = mask 0x77777777 w.toNat := by
  unfold mask
  rw [BitVec.toNat_and, BitVec.toNat_or, BitVec.toNat_add, BitVec.toNat_and]
  have e : (2004318071#32 : BitVec 32).toNat = 0x77777777 := by decide
  rw [e]
  have l : w.toNat &&& 0x77777777 ≤ 0x77777777 := Nat.and_le_right
  rw [Nat.mod_eq_of_lt (by omega)]

/-- A code moved to its place in the word. -/
theorem toNat_shift (c : BitVec 32) (hc : c.toNat < 16) (k : Fin 8) : (c <<< (4 * k.val)).toNat = c.toNat * 16 ^ k.val := by
  rw [BitVec.toNat_shiftLeft, Nat.shiftLeft_eq, pow_mul, show (2 : ℕ) ^ 4 = 16 from rfl]
  apply Nat.mod_eq_of_lt
  have : 16 ^ k.val ≤ 16 ^ 7 := Nat.pow_le_pow_right (by norm_num) (by omega)
  have h2 : (2 : ℕ) ^ 32 = 16 * 16 ^ 7 := by norm_num
  rw [h2]
  exact Nat.mul_lt_mul_of_lt_of_le hc this (by norm_num)

end Cert.Value

end
-- ==== Proof.Value.Code.lean ====
/- Hand-written, untrusted. The e2m1 code of a scaled value: counting the rounding boundaries it exceeds gives, the sign
   of a zero apart, the code of the value clipped to [-6, 6] and rounded half to even to a multiple of the spacing there. -/
module

public import proofs.«01_k».proof.Proof.Value.Nibbles
public import Idealize.ShloMosaic.PureOps.Ideal

@[expose] public section

noncomputable section

namespace Cert.Value

open Idealize.ShloMosaic

/-- One if `p` holds, as a word. -/
def b1 (p : Prop) [Decidable p] : BitVec 32 := if p then 1#32 else 0#32

/-- The magnitude, on the extended reals. -/
def mag (x : EReal) : EReal := max x (-x)

theorem mag_coe (r : ℝ) : mag (r : EReal) = ((|r| : ℝ) : EReal) := by
  unfold mag
  rw [← EReal.coe_neg, abs_eq_max_neg]
  exact (Monotone.map_max (f := Real.toEReal) EReal.coe_strictMono.monotone).symm

/-- The code by boundaries: the sign bit, and the number of boundaries that the magnitude passes. -/
def kcode (z : EReal) : BitVec 32 :=
  (if z < 0 then 8#32 else 0#32) + b1 (((1/4 : ℝ) : EReal) < mag z) + b1 (((5/4 : ℝ) : EReal) < mag z) + b1 (((5/2 : ℝ) : EReal) < mag z)
    + b1 (((5 : ℝ) : EReal) < mag z) + b1 (((3/4 : ℝ) : EReal) ≤ mag z) + b1 (((7/4 : ℝ) : EReal) ≤ mag z) + b1 (((7/2 : ℝ) : EReal) ≤ mag z)

/-- The spacing of the e2m1 values around `v`. -/
def stepOf (v : EReal) : EReal :=
  if mag v < ((2 : ℝ) : EReal) then ((1/2 : ℝ) : EReal) else if mag v < ((4 : ℝ) : EReal) then ((1 : ℝ) : EReal) else ((2 : ℝ) : EReal)

/-- `v` to the nearest multiple of the spacing, ties to even. -/
def quant (v : EReal) : EReal := Ideal.liftRound Ideal.roundHalfEven (Ideal.div v (stepOf v)) * stepOf v

/-- The code of an e2m1 value: the sign bit, and the number of positive e2m1 values up to its magnitude. -/
def vcode (q : EReal) : BitVec 32 :=
  (if q < 0 then 8#32 else 0#32) + b1 (((1/2 : ℝ) : EReal) ≤ mag q) + b1 (((1 : ℝ) : EReal) ≤ mag q) + b1 (((3/2 : ℝ) : EReal) ≤ mag q)
    + b1 (((2 : ℝ) : EReal) ≤ mag q) + b1 (((3 : ℝ) : EReal) ≤ mag q) + b1 (((4 : ℝ) : EReal) ≤ mag q) + b1 (((6 : ℝ) : EReal) ≤ mag q)

/-- `z` clipped to [-6, 6]. -/
def clip6 (z : EReal) : EReal := min ((6 : ℝ) : EReal) (max ((-6 : ℝ) : EReal) z)

/-! ## Rounding half to even -/

theorem rhe_strict (x : ℝ) (n : ℤ) (h1 : (n : ℝ) - 1/2 < x) (h2 : x < n + 1/2) : Ideal.roundHalfEven x = n := by
  unfold Ideal.roundHalfEven
  by_cases h : (n : ℝ) ≤ x
  · have hf : ⌊x⌋ = n := Int.floor_eq_iff.mpr ⟨h, by linarith⟩
    simp only [hf]
    rw [if_pos (by linarith)]
  · have hf : ⌊x⌋ = n - 1 := Int.floor_eq_iff.mpr ⟨by push_cast; linarith, by push_cast; linarith⟩
    simp only [hf]
    rw [if_neg (by push_cast; linarith), if_pos (by push_cast; linarith)]
    ring

theorem rhe_even (x : ℝ) (n : ℤ) (hn : Even n) (h1 : (n : ℝ) - 1/2 ≤ x) (h2 : x ≤ n + 1/2) : Ideal.roundHalfEven x = n := by
  rcases h1.lt_or_eq with h1 | h1
  · rcases h2.lt_or_eq with h2 | h2
    · exact rhe_strict x n h1 h2
    · unfold Ideal.roundHalfEven
      have hf : ⌊x⌋ = n := Int.floor_eq_iff.mpr ⟨by linarith, by linarith⟩
      simp only [hf]
      rw [if_neg (by linarith), if_neg (by linarith), if_pos hn]
  · unfold Ideal.roundHalfEven
    have hf : ⌊x⌋ = n - 1 := Int.floor_eq_iff.mpr ⟨by push_cast; linarith, by push_cast; linarith⟩
    simp only [hf]
    have : ¬ Even (n - 1) := by
      rw [Int.even_sub]
      simp [hn]
    rw [if_neg (by push_cast; linarith), if_neg (by push_cast; linarith), if_neg this]
    ring

/-- Both signs at once. -/
theorem rhe_both_strict (x : ℝ) (n : ℤ) (h1 : (n : ℝ) - 1/2 < x) (h2 : x < n + 1/2) :
    Ideal.roundHalfEven x = n ∧ Ideal.roundHalfEven (-x) = -n :=
  ⟨rhe_strict x n h1 h2, rhe_strict (-x) (-n) (by push_cast; linarith) (by push_cast; linarith)⟩
theorem rhe_both_even (x : ℝ) (n : ℤ) (hn : Even n) (h1 : (n : ℝ) - 1/2 ≤ x) (h2 : x ≤ n + 1/2) :
    Ideal.roundHalfEven x = n ∧ Ideal.roundHalfEven (-x) = -n :=
  ⟨rhe_even x n hn h1 h2, rhe_even (-x) (-n) hn.neg (by push_cast; linarith) (by push_cast; linarith)⟩

/-! ## On the reals -/

/-- The number of boundaries that `a` passes. -/
def kcount (a : ℝ) : BitVec 32 :=
  b1 (1/4 < a) + b1 (5/4 < a) + b1 (5/2 < a) + b1 (5 < a) + b1 (3/4 ≤ a) + b1 (7/4 ≤ a) + b1 (7/2 ≤ a)
/-- The number of positive e2m1 values up to `a`. -/
def rcount (a : ℝ) : BitVec 32 :=
  b1 (1/2 ≤ a) + b1 (1 ≤ a) + b1 (3/2 ≤ a) + b1 (2 ≤ a) + b1 (3 ≤ a) + b1 (4 ≤ a) + b1 (6 ≤ a)
def stepR (a : ℝ) : ℝ := if a < 2 then 1/2 else if a < 4 then 1 else 2

/-- What the eight rounding intervals have in common. -/
def Good (a : ℝ) : Prop := ∃ (n : ℤ) (k : ℕ), 0 ≤ n ∧ Ideal.roundHalfEven (a / stepR a) = n ∧ Ideal.roundHalfEven (-(a / stepR a)) = -n
  ∧ k < 8 ∧ kcount a = BitVec.ofNat 32 k ∧ rcount (n * stepR a) = BitVec.ofNat 32 k ∧ (n = 0 ↔ k = 0)

theorem b1_true {p : Prop} [Decidable p] (h : p) : b1 p = 1#32 := if_pos h
theorem b1_false {p : Prop} [Decidable p] (h : ¬p) : b1 p = 0#32 := if_neg h

theorem good (a : ℝ) (h0 : 0 ≤ a) (h6 : a ≤ 6) : Good a := by
  unfold Good
  by_cases c1 : a ≤ 1/4
  · have hs : stepR a = 1/2 := by unfold stepR; rw [if_pos (by linarith)]
    obtain ⟨p, q⟩ := rhe_both_even (a / stepR a) 0 (by decide) (by rw [hs]; push_cast; linarith) (by rw [hs]; push_cast; linarith)
    refine ⟨0, 0, by norm_num, p, q, by norm_num, ?_, ?_, by norm_num⟩
    · unfold kcount
      rw [b1_false (by linarith), b1_false (by linarith), b1_false (by linarith), b1_false (by linarith), b1_false (by linarith), b1_false (by linarith), b1_false (by linarith)]; rfl
    · unfold rcount; rw [hs]
      rw [b1_false (by norm_num), b1_false (by norm_num), b1_false (by norm_num), b1_false (by norm_num), b1_false (by norm_num), b1_false (by norm_num), b1_false (by norm_num)]; rfl
  by_cases c2 : a < 3/4
  · have hs : stepR a = 1/2 := by unfold stepR; rw [if_pos (by linarith)]
    obtain ⟨p, q⟩ := rhe_both_strict (a / stepR a) 1 (by rw [hs]; push_cast; linarith) (by rw [hs]; push_cast; linarith)
    refine ⟨1, 1, by norm_num, p, q, by norm_num, ?_, ?_, by norm_num⟩
    · unfold kcount
      rw [b1_true (by linarith), b1_false (by linarith), b1_false (by linarith), b1_false (by linarith), b1_false (by linarith), b1_false (by linarith), b1_false (by linarith)]; rfl
    · unfold rcount; rw [hs]
      rw [b1_true (by norm_num), b1_false (by norm_num), b1_false (by norm_num), b1_false (by norm_num), b1_false (by norm_num), b1_false (by norm_num), b1_false (by norm_num)]; rfl
  by_cases c3 : a ≤ 5/4
  · have hs : stepR a = 1/2 := by unfold stepR; rw [if_pos (by linarith)]
    obtain ⟨p, q⟩ := rhe_both_even (a / stepR a) 2 (by decide) (by rw [hs]; push_cast; linarith) (by rw [hs]; push_cast; linarith)
    refine ⟨2, 2, by norm_num, p, q, by norm_num, ?_, ?_, by norm_num⟩
    · unfold kcount
      rw [b1_true (by linarith), b1_false (by linarith), b1_false (by linarith), b1_false (by linarith), b1_true (by linarith), b1_false (by linarith), b1_false (by linarith)]; rfl
    · unfold rcount; rw [hs]
      rw [b1_true (by norm_num), b1_true (by norm_num), b1_false (by norm_num), b1_false (by norm_num), b1_false (by norm_num), b1_false (by norm_num), b1_false (by norm_num)]; rfl
  by_cases c4 : a < 7/4
  · have hs : stepR a = 1/2 := by unfold stepR; rw [if_pos (by linarith)]
    obtain ⟨p, q⟩ := rhe_both_strict (a / stepR a) 3 (by rw [hs]; push_cast; linarith) (by rw [hs]; push_cast; linarith)
    refine ⟨3, 3, by norm_num, p, q, by norm_num, ?_, ?_, by norm_num⟩
    · unfold kcount
      rw [b1_true (by linarith), b1_true (by linarith), b1_false (by linarith), b1_false (by linarith), b1_true (by linarith), b1_false (by linarith), b1_false (by linarith)]; rfl
    · unfold rcount; rw [hs]
      rw [b1_true (by norm_num), b1_true (by norm_num), b1_true (by norm_num), b1_false (by norm_num), b1_false (by norm_num), b1_false (by norm_num), b1_false (by norm_num)]; rfl
  by_cases c5 : a ≤ 5/2
  · have kc : kcount a = 4#32 := by
      unfold kcount
      rw [b1_true (by linarith), b1_true (by linarith), b1_false (by linarith), b1_false (by linarith), b1_true (by linarith), b1_true (by linarith), b1_false (by linarith)]; rfl
    have rc : rcount 2 = 4#32 := by
      unfold rcount
      rw [b1_true (by norm_num), b1_true (by norm_num), b1_true (by norm_num), b1_true (by norm_num), b1_false (by norm_num), b1_false (by norm_num), b1_false (by norm_num)]; rfl
    by_cases d : a < 2
    · have hs : stepR a = 1/2 := by unfold stepR; rw [if_pos (by linarith)]
      obtain ⟨p, q⟩ := rhe_both_even (a / stepR a) 4 (by decide) (by rw [hs]; push_cast; linarith) (by rw [hs]; push_cast; linarith)
      refine ⟨4, 4, by norm_num, p, q, by norm_num, kc, ?_, by norm_num⟩
      rw [hs, show (((4 : ℤ) : ℝ) * (1/2)) = 2 by norm_num]; exact rc
    · have hs : stepR a = 1 := by unfold stepR; rw [if_neg d, if_pos (by linarith)]
      obtain ⟨p, q⟩ := rhe_both_even (a / stepR a) 2 (by decide) (by rw [hs]; push_cast; linarith) (by rw [hs]; push_cast; linarith)
      refine ⟨2, 4, by norm_num, p, q, by norm_num, kc, ?_, by norm_num⟩
      rw [hs, show (((2 : ℤ) : ℝ) * 1) = 2 by norm_num]; exact rc
  by_cases c6 : a < 7/2
  · have hs : stepR a = 1 := by unfold stepR; rw [if_neg (by linarith), if_pos (by linarith)]
    obtain ⟨p, q⟩ := rhe_both_strict (a / stepR a) 3 (by rw [hs]; push_cast; linarith) (by rw [hs]; push_cast; linarith)
    refine ⟨3, 5, by norm_num, p, q, by norm_num, ?_, ?_, by norm_num⟩
    · unfold kcount
      rw [b1_true (by linarith), b1_true (by linarith), b1_true (by linarith), b1_false (by linarith), b1_true (by linarith), b1_true (by linarith), b1_false (by linarith)]; rfl
    · unfold rcount; rw [hs]
      rw [b1_true (by norm_num), b1_true (by norm_num), b1_true (by norm_num), b1_true (by norm_num), b1_true (by norm_num), b1_false (by norm_num), b1_false (by norm_num)]; rfl
  by_cases c7 : a ≤ 5
  · have kc : kcount a = 6#32 := by
      unfold kcount
      rw [b1_true (by linarith), b1_true (by linarith), b1_true (by linarith), b1_false (by linarith), b1_true (by linarith), b1_true (by linarith), b1_true (by linarith)]; rfl
    have rc : rcount 4 = 6#32 := by
      unfold rcount
      rw [b1_true (by norm_num), b1_true (by norm_num), b1_true (by norm_num), b1_true (by norm_num), b1_true (by norm_num), b1_true (by norm_num), b1_false (by norm_num)]; rfl
    by_cases d : a < 4
    · have hs : stepR a = 1 := by unfold stepR; rw [if_neg (by linarith), if_pos (by linarith)]
      obtain ⟨p, q⟩ := rhe_both_even (a / stepR a) 4 (by decide) (by rw [hs]; push_cast; linarith) (by rw [hs]; push_cast; linarith)
      refine ⟨4, 6, by norm_num, p, q, by norm_num, kc, ?_, by norm_num⟩
      rw [hs, show (((4 : ℤ) : ℝ) * 1) = 4 by norm_num]; exact rc
    · have hs : stepR a = 2 := by unfold stepR; rw [if_neg (by linarith), if_neg d]
      obtain ⟨p, q⟩ := rhe_both_even (a / stepR a) 2 (by decide) (by rw [hs]; push_cast; linarith) (by rw [hs]; push_cast; linarith)
      refine ⟨2, 6, by norm_num, p, q, by norm_num, kc, ?_, by norm_num⟩
      rw [hs, show (((2 : ℤ) : ℝ) * 2) = 4 by norm_num]; exact rc
  · have hs : stepR a = 2 := by unfold stepR; rw [if_neg (by linarith), if_neg (by linarith)]
    obtain ⟨p, q⟩ := rhe_both_strict (a / stepR a) 3 (by rw [hs]; push_cast; linarith) (by rw [hs]; push_cast; linarith)
    refine ⟨3, 7, by norm_num, p, q, by norm_num, ?_, ?_, by norm_num⟩
    · unfold kcount
      rw [b1_true (by linarith), b1_true (by linarith), b1_true (by linarith), b1_true (by linarith), b1_true (by linarith), b1_true (by linarith), b1_true (by linarith)]; rfl
    · unfold rcount; rw [hs]
      rw [b1_true (by norm_num), b1_true (by norm_num), b1_true (by norm_num), b1_true (by norm_num), b1_true (by norm_num), b1_true (by norm_num), b1_true (by norm_num)]; rfl

/-! ## Back on the extended reals -/

theorem stepR_pos (a : ℝ) : 0 < stepR a := by unfold stepR; split_ifs <;> norm_num

theorem stepOf_coe (r : ℝ) : stepOf (r : EReal) = ((stepR |r| : ℝ) : EReal) := by
  unfold stepOf stepR
  rw [mag_coe]
  simp only [EReal.coe_lt_coe_iff]
  split_ifs <;> rfl

theorem quant_coe (r : ℝ) : quant (r : EReal) = (((Ideal.roundHalfEven (r / stepR |r|) : ℝ) * stepR |r| : ℝ) : EReal) := by
  unfold quant
  rw [stepOf_coe, Ideal.div, if_neg (by rw [← EReal.coe_zero, EReal.coe_eq_coe_iff]; exact (stepR_pos _).ne'), ← EReal.coe_inv, ← EReal.coe_mul,
    Ideal.liftRound_coe, ← EReal.coe_mul, div_eq_mul_inv]

theorem kcode_coe (r : ℝ) : kcode (r : EReal) = (if r < 0 then 8#32 else 0#32) + kcount |r| := by
  unfold kcode kcount
  rw [mag_coe]
  have e0 : ((r : EReal) < 0) = (r < 0) := by rw [← EReal.coe_zero, EReal.coe_lt_coe_iff]
  simp only [EReal.coe_lt_coe_iff, EReal.coe_le_coe_iff, e0, BitVec.add_assoc]

theorem vcode_coe (r : ℝ) : vcode (r : EReal) = (if r < 0 then 8#32 else 0#32) + rcount |r| := by
  unfold vcode rcount
  rw [mag_coe]
  have e0 : ((r : EReal) < 0) = (r < 0) := by rw [← EReal.coe_zero, EReal.coe_lt_coe_iff]
  simp only [EReal.coe_lt_coe_iff, EReal.coe_le_coe_iff, e0, BitVec.add_assoc]

theorem toNat_small (s k : ℕ) (hk : k < 8) (hs : s ≤ 8) : (BitVec.ofNat 32 s + BitVec.ofNat 32 k).toNat = s + k := by
  rw [BitVec.toNat_add, BitVec.toNat_ofNat, BitVec.toNat_ofNat]; omega

theorem code_real (r : ℝ) (h1 : -6 ≤ r) (h2 : r ≤ 6) :
    (vcode (quant (r : EReal))).toNat = clean (kcode (r : EReal)).toNat ∧ (kcode (r : EReal)).toNat < 16 := by
  obtain ⟨n, k, hn, p, q, hk, kc, rc, nz⟩ := good |r| (abs_nonneg r) (abs_le.mpr ⟨h1, h2⟩)
  have sp := stepR_pos |r|
  rw [quant_coe, kcode_coe, vcode_coe, kc]
  have hnr : (0 : ℝ) ≤ n := by exact_mod_cast hn
  by_cases hr : r < 0
  · have e : r / stepR |r| = -(|r| / stepR |r|) := by rw [abs_of_neg hr, neg_div, neg_neg]
    rw [e, q, if_pos hr]
    have ea : abs (((-n : ℤ) : ℝ) * stepR (abs r)) = n * stepR (abs r) := by
      push_cast
      rw [neg_mul, abs_neg, abs_of_nonneg (mul_nonneg hnr sp.le)]
    rw [ea, rc, show (8#32 : BitVec 32) = BitVec.ofNat 32 8 from rfl, toNat_small 8 k hk le_rfl]
    refine ⟨?_, by omega⟩
    by_cases hz : n = 0
    · have k0 := nz.mp hz
      subst k0; subst hz
      rw [if_neg (by push_cast; simp)]
      rfl
    · have k0 : k ≠ 0 := fun h => hz (nz.mpr h)
      have np : (0 : ℝ) < n := lt_of_le_of_ne hnr (by exact_mod_cast (Ne.symm hz))
      rw [if_pos (by push_cast; have := mul_pos np sp; linarith), toNat_small 8 k hk le_rfl]
      unfold clean
      rw [if_neg (by omega)]
  · have hr' : 0 ≤ r := not_lt.mp hr
    rw [if_neg hr]
    have e : r / stepR |r| = |r| / stepR |r| := by rw [abs_of_nonneg hr']
    rw [e, p, abs_of_nonneg (mul_nonneg hnr sp.le), rc, if_neg (not_lt.mpr (mul_nonneg hnr sp.le)), show (0#32 : BitVec 32) = BitVec.ofNat 32 0 from rfl,
      toNat_small 0 k hk (by norm_num)]
    refine ⟨?_, by omega⟩
    unfold clean
    split_ifs <;> omega

/-- The clipped value is a real number between -6 and 6. -/
theorem clip6_real (z : EReal) : ∃ r : ℝ, clip6 z = (r : EReal) ∧ -6 ≤ r ∧ r ≤ 6 := by
  have l : ((-6 : ℝ) : EReal) ≤ clip6 z := le_min (by exact_mod_cast (by norm_num : (-6 : ℝ) ≤ 6)) (le_max_left _ _)
  have u : clip6 z ≤ ((6 : ℝ) : EReal) := min_le_left _ _
  have nb : clip6 z ≠ ⊥ := fun h => by rw [h] at l; exact absurd l (by simp)
  have nt : clip6 z ≠ ⊤ := fun h => by rw [h] at u; exact absurd u (by simp)
  refine ⟨(clip6 z).toReal, (EReal.coe_toReal nt nb).symm, ?_, ?_⟩
  · rw [← EReal.coe_le_coe_iff, EReal.coe_toReal nt nb]; exact l
  · rw [← EReal.coe_le_coe_iff, EReal.coe_toReal nt nb]; exact u

theorem mag_clip6 (z : EReal) : mag (clip6 z) = min ((6 : ℝ) : EReal) (mag z) := by
  have h6 : ((-6 : ℝ) : EReal) = -((6 : ℝ) : EReal) := EReal.coe_neg 6
  have pos : ((-6 : ℝ) : EReal) ≤ ((6 : ℝ) : EReal) := by exact_mod_cast (by norm_num : (-6 : ℝ) ≤ 6)
  unfold clip6 mag
  by_cases a : z ≤ ((-6 : ℝ) : EReal)
  · have a' : ((6 : ℝ) : EReal) ≤ -z := by rw [EReal.le_neg, ← h6]; exact a
    rw [max_eq_left a, min_eq_right pos, h6, neg_neg, min_eq_left (le_trans a' (le_max_right _ _)), ← h6, max_eq_right pos]
  · have a := (not_le.mp a).le
    rw [max_eq_right a]
    have na : -z ≤ ((6 : ℝ) : EReal) := by rw [EReal.neg_le, ← h6]; exact a
    by_cases b : ((6 : ℝ) : EReal) ≤ z
    · rw [min_eq_left b, min_eq_left (le_trans b (le_max_left _ _)), ← h6, max_eq_left pos]
    · have b := (not_le.mp b).le
      rw [min_eq_right b, min_eq_right (max_le b na)]

/-- Clipping does not change the code. -/
theorem kcode_clip6 (z : EReal) : kcode (clip6 z) = kcode z := by
  have lt (t : ℝ) (h : t < 6) : (((t : ℝ) : EReal) < mag (clip6 z)) = (((t : ℝ) : EReal) < mag z) := by
    rw [mag_clip6, lt_min_iff]
    exact propext ⟨fun a => a.2, fun a => ⟨by exact_mod_cast h, a⟩⟩
  have le (t : ℝ) (h : t < 6) : (((t : ℝ) : EReal) ≤ mag (clip6 z)) = (((t : ℝ) : EReal) ≤ mag z) := by
    rw [mag_clip6, le_min_iff]
    exact propext ⟨fun a => a.2, fun a => ⟨by exact_mod_cast h.le, a⟩⟩
  have neg : (clip6 z < 0) = (z < 0) := by
    unfold clip6
    have p6 : ¬ ((6 : ℝ) : EReal) < 0 := by exact_mod_cast (by norm_num : ¬ (6 : ℝ) < 0)
    have n6 : ((-6 : ℝ) : EReal) < 0 := by exact_mod_cast (by norm_num : (-6 : ℝ) < 0)
    rw [min_lt_iff, max_lt_iff]
    exact propext ⟨fun a => (a.resolve_left p6).2, fun a => .inr ⟨n6, a⟩⟩
  unfold kcode
  simp only [neg, lt (1/4) (by norm_num), lt (5/4) (by norm_num), lt (5/2) (by norm_num), lt 5 (by norm_num), le (3/4) (by norm_num),
    le (7/4) (by norm_num), le (7/2) (by norm_num)]

/-- The boundaries' code, its sign cleared where the magnitude is zero, is the code of the clipped and rounded value. -/
theorem code_eq (z : EReal) : (vcode (quant (clip6 z))).toNat = clean (kcode z).toNat ∧ (kcode z).toNat < 16 := by
  obtain ⟨r, hr, h1, h2⟩ := clip6_real z
  rw [← kcode_clip6 z, hr]
  exact code_real r h1 h2

end Cert.Value

end

end
-- ==== Proof.Value.Common.lean ====
/- Hand-written, untrusted. What both programs compute, as functions of the argument array: the rotated entries, the block
   maxima, the global scale, the block scales, the codes and the packed bytes. -/
module

public import proofs.«01_k».proof.Proof.Value.Hadamard
public import proofs.«01_k».proof.Proof.Value.Code
public import Idealize.ShloMosaic.PureOps.Ideal.Laws
public import Idealize.ShloMosaic.PureOps.Reduce
public import Idealize.ShloMosaic.Lib.ValueIdxCore
public import Idealize.ShloMosaic.Lib.MatmulPlain

@[expose] public section

noncomputable section

namespace Cert.Value

open Idealize.ShloMosaic
open Idealize.ShloMosaic.ValueIdx (ix2 ix3)

/-- An argument array: batch, token, column. -/
abbrev Arr : Type := (⟨3, ![48, 2048, 768]⟩ : Shape).Idx → EReal

variable (X : Arr)

/-- Column `i` of block `g`. -/
def col (g : Fin 48) (i : Fin 16) : Fin 768 := ⟨16 * g.val + i.val, by omega⟩

/-- Entry `j` of block `g` of a token's rotated row. -/
def rot (n : Fin 48) (t : Fin 2048) (g : Fin 48) (j : Fin 16) : EReal :=
  ∑ i : Fin 16, h4 i.val j.val * X (ix3 n t (col g i))

/-- The largest magnitude in a block. -/
def bmx (n : Fin 48) (t : Fin 2048) (g : Fin 48) : EReal := Finset.univ.sup fun j : Fin 16 => mag (rot X n t g j)

/-- The largest magnitude of all. -/
def amx : EReal := Finset.univ.sup fun p : Fin 48 × Fin 2048 × Fin 48 => bmx X p.1 p.2.1 p.2.2

theorem amx_le_iff (c : EReal) : amx X ≤ c ↔ ∀ (n : Fin 48) (t : Fin 2048) (g : Fin 48), bmx X n t g ≤ c := by
  refine Finset.sup_le_iff.trans ⟨fun h n t g => ?_, fun h p _ => h p.1 p.2.1 p.2.2⟩
  have := h (n, t, g)
  simp only [Finset.mem_univ, forall_const] at this
  exact this

/-- The global scale of a largest magnitude. -/
def sgOfMax (a : EReal) : EReal :=
  if 0 < a then Ideal.div a (Ideal.ofBits .f32 0x45280000#32) else (1 : EReal)

/-- The global scale. -/
def sgl : EReal := sgOfMax (amx X)

/-- The block scale of a block maximum under a global scale. -/
def sbOf (b s : EReal) : EReal :=
  min (Ideal.ofBits .f32 0x43E00000#32) (max (0 : EReal) (Ideal.div b (Ideal.ofBits .f32 0x40C00000#32 * s)))

/-- The divisor of a block's entries. -/
def effOf (b s : EReal) : EReal := if sbOf b s * s = 0 then 1 else sbOf b s * s

theorem effOf_ne (b s : EReal) : effOf b s ≠ 0 := by
  unfold effOf
  split
  · exact one_ne_zero
  · assumption

/-- The scaled entry. -/
def zval (n : Fin 48) (t : Fin 2048) (g : Fin 48) (j : Fin 16) : EReal :=
  Ideal.div (rot X n t g j) (effOf (bmx X n t g) (sgl X))

/-- Its code. -/
def code (n : Fin 48) (t : Fin 2048) (g : Fin 48) (j : Fin 16) : ℕ := (vcode (quant (clip6 (zval X n t g j)))).toNat

/-- The byte of two neighbouring codes. -/
def byte (n : Fin 48) (t : Fin 2048) (q : Fin 384) : BitVec 8 :=
  BitVec.ofNat 8 (code X n t ⟨q.val / 8, by omega⟩ ⟨2 * (q.val % 8), by omega⟩ + 16 * code X n t ⟨q.val / 8, by omega⟩ ⟨2 * (q.val % 8) + 1, by omega⟩)

/-! ## Maxima -/

theorem ofBits_ninf : Ideal.ofBits .f32 0xFF800000#32 = ⊥ := by
  simp [Ideal.ofBits, Ideal.ieee]

/-- A maximum over axes is the supremum over the entries that reduce to the result's. -/
theorem max_eq_sup {s t : Shape} {axes : List (Fin s.rank)} (x : FVec Ideal s .f32) (h : s.Reduces axes t) (hφ : FKind.Formats .f32)
    (hacc : (0xFF800000#32 : BitVec FTy.f32.bits) = FKind.maximumf.neutral .f32 hφ) (j : t.Idx) :
    multiReduction .maximumf axes t x 0xFF800000#32 h hφ hacc j = (Finset.univ.filter fun i => h.drop i = j).sup x := by
  rw [multiReduction_maximumf_eq_fold]
  show Finset.fold max (Ideal.ofBits .f32 0xFF800000#32) x _ = _
  rw [ofBits_ninf]
  rfl

theorem hostMax_eq_sup {s t u : Shape} {axes : List (Fin s.rank)} (x : FVec Ideal s .f32) (h : s.ReducesTo axes t) (hu : 0 < u.numel) (init : FVec Ideal u .f32)
    (hi : init (Shape.Idx.first hu) = ⊥) (j : t.Idx) :
    Host.reduce (FloatOps.maximumf (F := Ideal) (φ := .f32)) x init h hu j = (Finset.univ.filter fun i => h.drop i = j).sup x := by
  rw [Host.reduce_eq_fold, hi]
  rfl

end Cert.Value

end
-- ==== Proof.Value.RHost.lean ====
/- Hand-written, untrusted. The reference's host line, read stretch by stretch: each buffer as an operation on what the
   stretch before it left. -/
module

public import proofs.«01_k».proof.Proof.Value.Common
public import proofs.«01_k».proof.Proof.Gen.ReferenceIdeal.Value
public import Idealize.ShloMosaic.Lib.Claim

@[expose] public section

set_option maxRecDepth 16384

noncomputable section

namespace Cert.Value.Ref

open Cert.ReferenceIdeal Cert.ReferenceIdeal.Gen
open Idealize.ShloMosaic Idealize.ShloMosaic.TcCoe Idealize.ShloMosaic.Tactic
open Idealize.ShloMosaic.ValueIdx (ix1 ix2 ix3 eq_ix2 eq_ix3)

/-! ## The tensors of the host line -/

/-- The parity of the common bits of two indices. -/
def parT : S16x16.Idx → BitVec 1 :=
  cmpi .eq (andi (ctpop (andi (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))
    (broadcastInDim S16x16 ![] bcast_S_S16x16 (constantI S_ 32 1#32))) (broadcastInDim S16x16 ![] bcast_S_S16x16 (constantI S_ 32 0#32))

/-- The 16 by 16 rotation. -/
def hadT : FVec Ideal S16x16 .f32 :=
  select parT (broadcastInDim S16x16 ![] bcast_S_S16x16 (constant (F := Ideal) S_ .f32 0x3E800000#32)) (broadcastInDim S16x16 ![] bcast_S_S16x16 (constant (F := Ideal) S_ .f32 0xBE800000#32))

/-- The 48 by 48 identity. -/
def eyeT : FVec Ideal S48x48 .f32 :=
  uitofp .f32 (cmpi .eq (addi (iotaInDim S48x48 32 0) (broadcastInDim S48x48 ![] bcast_S_S48x48 (constantI S_ 32 0#32))) (iotaInDim S48x48 32 1))

/-- The block-diagonal rotation, by blocks and flat. -/
def kron4 (e : FVec Ideal S48x48 .f32) (h : FVec Ideal S16x16 .f32) : FVec Ideal S48x16x48x16 .f32 :=
  mulf (broadcastInDim S48x16x48x16 ![0, 1, 2, 3] bcast_S48x1x48x1_S48x16x48x16_0_1_2_3 (broadcastInDim S48x1x48x1 ![0, 2] bcast_S48x48_S48x1x48x1_0_2 e))
    (broadcastInDim S48x16x48x16 ![0, 1, 2, 3] bcast_S1x16x1x16_S48x16x48x16_0_1_2_3 (broadcastInDim S1x16x1x16 ![1, 3] bcast_S16x16_S1x16x1x16_1_3 h))
def kronT (e : FVec Ideal S48x48 .f32) (h : FVec Ideal S16x16 .f32) : FVec Ideal S768x768 .f32 :=
  shapeCast S768x768 (kron4 e h) shapeCasts_S48x16x48x16_S768x768

/-- The rotated input, by blocks. -/
def rotT (x : FVec Ideal S48x2048x768 .bf16) (w : FVec Ideal S768x768 .f32) : FVec Ideal S48x2048x48x16 .f32 :=
  shapeCast S48x2048x48x16 (Host.dotGeneral dot_S98304x768_S768x768_S98304x768_1_0_0_1_n_n none
    (shapeCast S98304x768 x shapeCasts_S48x2048x768_S98304x768 : FVec Ideal S98304x768 .bf16) (truncf .bf16 w bitsLt_bf16_f32)) shapeCasts_S98304x768_S48x2048x48x16

/-- The block maxima. -/
def maxT (y : FVec Ideal S48x2048x48x16 .f32) : FVec Ideal S48x2048x48 .f32 :=
  Host.reduce FloatOps.maximumf (Host.absf y) (constant (F := Ideal) S_ .f32 0xFF800000#32) reducesTo_S48x2048x48x16_S48x2048x48_d3 h_S_

/-- The maximum of all. -/
def topT (b : FVec Ideal S48x2048x48 .f32) : FVec Ideal S_ .f32 :=
  Host.reduce FloatOps.maximumf b (constant (F := Ideal) S_ .f32 0xFF800000#32) reducesTo_S48x2048x48_S_d0_1_2 h_S_

/-- The global scale. -/
def sgT (a : FVec Ideal S_ .f32) : FVec Ideal S_ .f32 :=
  select (cmpf .ogt a (constant (F := Ideal) S_ .f32 0x00000000#32)) (Host.divf a (constant (F := Ideal) S_ .f32 0x45280000#32)) (constant (F := Ideal) S_ .f32 0x3F800000#32)

/-! ## The stretches -/

abbrev VT := Valuation τ sig (Elt Ideal)

def l0 : List (HloOp τ sig (Elt Ideal)) := hostOps0
def l1 : List (HloOp τ sig (Elt Ideal)) := hostOps0_1
def l2 : List (HloOp τ sig (Elt Ideal)) := hostOps0_2
def l3 : List (HloOp τ sig (Elt Ideal)) := hostOps0_3.take 5
def l3' : List (HloOp τ sig (Elt Ideal)) := hostOps0_3.drop 5
def l4 : List (HloOp τ sig (Elt Ideal)) := hostOps0_4.take 4
def l4' : List (HloOp τ sig (Elt Ideal)) := hostOps0_4.drop 4
def l5 : List (HloOp τ sig (Elt Ideal)) := hostOps0_5
def l6 : List (HloOp τ sig (Elt Ideal)) := hostOps0_6

theorem r0_v10 (W : VT) : StableHlo.after l0 W (Proc.devRef .tc main_v10) = parT := by
  unfold l0
  after_results
  rfl
theorem r0_cst (W : VT) : StableHlo.after l0 W (Proc.devRef .tc main_cst) = constant (F := Ideal) S_ .f32 0x3E800000#32 := by
  unfold l0
  after_results
theorem r0_cst1 (W : VT) : StableHlo.after l0 W (Proc.devRef .tc main_cst_1) = constant (F := Ideal) S_ .f32 0xBE800000#32 := by
  unfold l0
  after_results
theorem r0_arg (W : VT) : StableHlo.after l0 W (Proc.devRef .tc main_arg0) = W (Proc.devRef .tc main_arg0) := by
  unfold l0
  after_results

theorem r1_v11 (W : VT) : StableHlo.after l1 W (Proc.devRef .tc main_v11)
    = select (W (Proc.devRef .tc main_v10)) (broadcastInDim S16x16 ![] bcast_S_S16x16 (W (Proc.devRef .tc main_cst))) (broadcastInDim S16x16 ![] bcast_S_S16x16 (W (Proc.devRef .tc main_cst_1))) := by
  unfold l1
  after_results
  rfl
theorem r1_arg (W : VT) : StableHlo.after l1 W (Proc.devRef .tc main_arg0) = W (Proc.devRef .tc main_arg0) := by
  unfold l1
  after_results

theorem r2_v17 (W : VT) : StableHlo.after l2 W (Proc.devRef .tc main_v17) = eyeT := by
  unfold l2
  after_results
  rfl
theorem r2_v11 (W : VT) : StableHlo.after l2 W (Proc.devRef .tc main_v11) = W (Proc.devRef .tc main_v11) := by
  unfold l2
  after_results
theorem r2_arg (W : VT) : StableHlo.after l2 W (Proc.devRef .tc main_arg0) = W (Proc.devRef .tc main_arg0) := by
  unfold l2
  after_results

theorem r3_v4 (W : VT) : StableHlo.after l3 W (Proc.devRef .tc main_call1_v4) = kron4 (W (Proc.devRef .tc main_v17)) (W (Proc.devRef .tc main_v11)) := by
  unfold l3
  simp only [List.take_succ_cons, List.take_zero]
  after_results
  rfl
theorem r3_arg (W : VT) : StableHlo.after l3 W (Proc.devRef .tc main_arg0) = W (Proc.devRef .tc main_arg0) := by
  unfold l3
  simp only [List.take_succ_cons, List.take_zero]
  after_results
theorem r3'_v18 (W : VT) : StableHlo.after l3' W (Proc.devRef .tc main_v18) = shapeCast S768x768 (W (Proc.devRef .tc main_call1_v4)) shapeCasts_S48x16x48x16_S768x768 := by
  unfold l3'
  simp only [List.drop_succ_cons, List.drop_zero]
  after_results
  rfl
theorem r3'_arg (W : VT) : StableHlo.after l3' W (Proc.devRef .tc main_arg0) = W (Proc.devRef .tc main_arg0) := by
  unfold l3'
  simp only [List.drop_succ_cons, List.drop_zero]
  after_results

theorem r4_v22 (W : VT) : StableHlo.after l4 W (Proc.devRef .tc main_v22) = rotT (W (Proc.devRef .tc main_arg0)) (W (Proc.devRef .tc main_v18)) := by
  unfold l4
  simp only [List.take_succ_cons, List.take_zero]
  after_results
  rfl
theorem r4'_v22 (W : VT) : StableHlo.after l4' W (Proc.devRef .tc main_v22) = W (Proc.devRef .tc main_v22) := by
  unfold l4'
  simp only [List.drop_succ_cons, List.drop_zero]
  after_results
theorem r4'_v24 (W : VT) : StableHlo.after l4' W (Proc.devRef .tc main_v24) = maxT (W (Proc.devRef .tc main_v22)) := by
  unfold l4'
  simp only [List.drop_succ_cons, List.drop_zero]
  after_results
  unfold maxT
  rfl
theorem r4'_v26 (W : VT) : StableHlo.after l4' W (Proc.devRef .tc main_v26)
    = cmpf .ogt (topT (maxT (W (Proc.devRef .tc main_v22)))) (constant (F := Ideal) S_ .f32 0x00000000#32) := by
  unfold l4'
  simp only [List.drop_succ_cons, List.drop_zero]
  after_results
  unfold topT maxT
  rfl
theorem r4'_v27 (W : VT) : StableHlo.after l4' W (Proc.devRef .tc main_v27)
    = Host.divf (topT (maxT (W (Proc.devRef .tc main_v22)))) (constant (F := Ideal) S_ .f32 0x45280000#32) := by
  unfold l4'
  simp only [List.drop_succ_cons, List.drop_zero]
  after_results
  unfold topT maxT
  rfl
theorem r4'_cst7 (W : VT) : StableHlo.after l4' W (Proc.devRef .tc main_cst_7) = constant (F := Ideal) S_ .f32 0x3F800000#32 := by
  unfold l4'
  simp only [List.drop_succ_cons, List.drop_zero]
  after_results

theorem r5_v28 (W : VT) : StableHlo.after l5 W (Proc.devRef .tc main_v28)
    = select (W (Proc.devRef .tc main_v26)) (W (Proc.devRef .tc main_v27)) (W (Proc.devRef .tc main_cst_7)) := by
  unfold l5
  after_results
  rfl
theorem r5_v22 (W : VT) : StableHlo.after l5 W (Proc.devRef .tc main_v22) = W (Proc.devRef .tc main_v22) := by
  unfold l5
  after_results
theorem r5_v24 (W : VT) : StableHlo.after l5 W (Proc.devRef .tc main_v24) = W (Proc.devRef .tc main_v24) := by
  unfold l5
  after_results

theorem r6_v29 (W : VT) : StableHlo.after l6 W (Proc.devRef .tc main_v29) = shapeCast S1x1x1 (W (Proc.devRef .tc main_v28)) shapeCasts_S_S1x1x1 := by
  unfold l6
  after_results
  rfl
theorem r6_v28 (W : VT) : StableHlo.after l6 W (Proc.devRef .tc main_v28) = W (Proc.devRef .tc main_v28) := by
  unfold l6
  after_results
theorem r6_v22 (W : VT) : StableHlo.after l6 W (Proc.devRef .tc main_v22) = W (Proc.devRef .tc main_v22) := by
  unfold l6
  after_results
theorem r6_v24 (W : VT) : StableHlo.after l6 W (Proc.devRef .tc main_v24) = W (Proc.devRef .tc main_v24) := by
  unfold l6
  after_results

variable (m : (ℓ : Loc nD τ sig) → Buf (Elt Ideal) ℓ)

/-- What each device holds before stretch 4 and after. -/
def W3 (c : Dev nD) : VT := StableHlo.after l3' (StableHlo.after l3 (StableHlo.after l2 (StableHlo.after l1 (StableHlo.after l0 (fun b => m (c, b))))))
def W4 (c : Dev nD) : VT := StableHlo.after l4 (W3 m c)
def W5 (c : Dev nD) : VT := StableHlo.after l5 (StableHlo.after l4' (W4 m c))

theorem V_eq (c : Dev nD) (b : Ref sig .tc) : V m c b = StableHlo.after l6 (W5 m c) (Proc.devRef .tc b) := rfl

theorem W3_arg (c : Dev nD) : W3 m c (Proc.devRef .tc main_arg0) = m (c.tc.loc main_arg0) := by
  unfold W3
  rw [r3'_arg, r3_arg, r2_arg, r1_arg, r0_arg]

theorem W3_v18 (c : Dev nD) : W3 m c (Proc.devRef .tc main_v18) = kronT eyeT hadT := by
  unfold W3
  rw [r3'_v18, r3_v4, r2_v17, r2_v11, r1_v11, r0_v10, r0_cst, r0_cst1]
  rfl

/-- The rotated input of device `c`. -/
def yT (c : Dev nD) : FVec Ideal S48x2048x48x16 .f32 := rotT (m (c.tc.loc main_arg0)) (kronT eyeT hadT)

theorem W4_22 (c : Dev nD) : W4 m c (Proc.devRef .tc main_v22) = yT m c := by
  unfold W4
  rw [r4_v22, W3_arg, W3_v18]
  rfl

theorem V_22 (c : Dev nD) : V m c main_v22 = yT m c := by
  rw [V_eq, r6_v22]; unfold W5
  rw [r5_v22, r4'_v22, W4_22]
theorem V_24 (c : Dev nD) : V m c main_v24 = maxT (yT m c) := by
  rw [V_eq, r6_v24]; unfold W5
  rw [r5_v24, r4'_v24, W4_22]
theorem W5_28 (c : Dev nD) : W5 m c (Proc.devRef .tc main_v28) = sgT (topT (maxT (yT m c))) := by
  unfold W5
  rw [r5_v28, r4'_v26, r4'_v27, r4'_cst7, W4_22]
  rfl
theorem V_28 (c : Dev nD) : V m c main_v28 = sgT (topT (maxT (yT m c))) := by
  rw [V_eq, r6_v28, W5_28]
theorem V_29 (c : Dev nD) : V m c main_v29 = shapeCast S1x1x1 (sgT (topT (maxT (yT m c)))) shapeCasts_S_S1x1x1 := by
  rw [V_eq, r6_v29, W5_28]

end Cert.Value.Ref
-- ==== Proof.Value.KMax.lean ====
/- Hand-written, untrusted. The kernel's products with the block-diagonal rotation are the rotated entries, and its maxima
   over sixteen rows the block maxima. -/
module

public import proofs.«01_k».proof.Proof.Value.Common
public import proofs.«01_k».proof.Proof.KernelIdeal.Vals
public import Idealize.ShloMosaic.Lib.Pipeline.Value
public import Idealize.ShloMosaic.Lib.ValueLayout

@[expose] public section

noncomputable section

namespace Cert.Value

open Idealize.ShloMosaic
open Idealize.ShloMosaic.ValueIdx (ix1 ix2 ix3 eq_ix2 eq_ix3)
open Cert.KernelIdeal Cert.KernelIdeal.Gen Cert.KernelIdeal.Hand

/-- Entry `(r, k)` of the block-diagonal rotation, output by input. -/
def ent (r k : ℕ) : EReal := if r / 16 = k / 16 then h4 (k % 16) (r % 16) else 0

/-- A chunk of a tile of the argument. -/
def IsChunk (X : Arr) (n : Fin 48) (K : Fin 3) (xk : Vec Ideal S2048x256 .bf16) : Prop :=
  ∀ (t : Fin 2048) (k : Fin 256), xk (ix2 t k) = X (ix3 n t ⟨256 * K.val + k.val, by omega⟩)

/-- A matrix whose row `r` is row `f r` of the block-diagonal rotation. -/
def IsRot (f : ℕ → ℕ) (M : Vec Ideal S256x256 .bf16) : Prop := ∀ (r k : Fin 256), M (ix2 r k) = ent (f r.val) k.val

/-- A sixteen-block of a chunk, as a block of the row. -/
def blk (K : Fin 3) (r : ℕ) (h : r < 256) : Fin 48 := ⟨16 * K.val + r / 16, by omega⟩

variable {X : Arr} {n : Fin 48} {K : Fin 3} {xk : Vec Ideal S2048x256 .bf16} {M : Vec Ideal S256x256 .bf16} {f : ℕ → ℕ}

theorem mm_apply (M : Vec Ideal S256x256 .bf16) (xk : Vec Ideal S2048x256 .bf16) (r : Fin 256) (t : Fin 2048) :
    k0_pay15 M xk (ix2 r t) = ∑ k : Fin 256, M (ix2 r k) * xk (ix2 t k) := by
  unfold k0_pay15
  simp only [shapeCast_self, matmul]
  refine (Ideal.matmul_transposedRhs_apply (M := 256) (K := 256) (N := 2048) none M xk _ r t).trans ?_
  refine (congrArg (· + _) ?_).trans (zero_add _)
  show Ideal.ofBits .f32 0x00000000#32 = 0
  simp [Ideal.ofBits, Ideal.ieee]

/-- Row `r` of the product is one column of the rotated rows. -/
theorem mm_rot (hx : IsChunk X n K xk) (hM : IsRot f M) (r : Fin 256) (t : Fin 2048) (hr : f r.val < 256) :
    k0_pay15 M xk (ix2 r t) = rot X n t (blk K (f r.val) hr) ⟨f r.val % 16, by omega⟩ := by
  rw [mm_apply, sum_block 256 _ (f r.val / 16) (by omega)]
  · unfold rot
    refine Finset.sum_congr rfl fun i _ => ?_
    rw [hM, hx]
    unfold ent
    rw [if_pos (by simp only; omega)]
    have e1 : (16 * (f r.val / 16) + i.val) % 16 = i.val := by omega
    simp only [e1]
    refine congrArg (fun q => h4 i.val (f r.val % 16) * X (ix3 n t q)) (Fin.ext ?_)
    show 256 * K.val + (16 * (f r.val / 16) + i.val) = 16 * (16 * K.val + f r.val / 16) + i.val
    omega
  · intro k hk
    rw [hM]
    unfold ent
    rw [if_neg (fun h => hk h.symm), zero_mul]

/-! ## Maxima over sixteen rows -/

theorem lift_ix (g : Fin 16) (t : Fin 2048) (a : Fin 16) :
    (reduces_S16x16x2048_S16x2048).lift (ix2 g t) a = (ix3 a g t : S16x16x2048.Idx) := by
  funext c
  apply Fin.ext
  match c with
  | ⟨0, _⟩ => rfl
  | ⟨1, _⟩ => rfl
  | ⟨2, _⟩ => rfl

theorem lift_inj (g : Fin 16) (t : Fin 2048) :
    (Finset.univ.filter fun i => (reduces_S16x16x2048_S16x2048).drop i = ix2 g t) = Finset.univ.image (fun a : Fin 16 => (ix3 a g t : S16x16x2048.Idx)) := by
  rw [Shape.Reduces.filter_drop_eq_image_lift]
  refine congrArg (fun F => Finset.univ.image F) (funext fun a => lift_ix g t a)

/-- A chunk's maxima are the block maxima. -/
theorem pay6_eq (hx : IsChunk X n K xk) (hM : IsRot (fun r => r % 16 * 16 + r / 16) M) (g : Fin 16) (t : Fin 2048) :
    k0_pay6 M xk (ix2 g t) = bmx X n t ⟨16 * K.val + g.val, by omega⟩ := by
  have e : k0_pay6 M xk (ix2 g t) = multiReduction .maximumf [0] S16x2048 (shapeCast S16x16x2048 (absf (k0_pay15 M xk)) shapeCasts_S256x2048_S16x16x2048) 0xFF800000#32 reduces_S16x16x2048_S16x2048 (.inl rfl) rfl (ix2 g t) := rfl
  refine e.trans ((max_eq_sup _ _ _ _ _).trans ?_)
  rw [lift_inj, Finset.sup_image]
  unfold bmx
  refine Finset.sup_congr rfl fun a _ => ?_
  show shapeCast S16x16x2048 (absf (k0_pay15 M xk)) shapeCasts_S256x2048_S16x16x2048 (ix3 a g t) = _
  rw [shapeCast_apply _ _ _ (ix2 ⟨16 * a.val + g.val, by omega⟩ t) (by
    rw [Shape.rowMajor_val_two, Shape.rowMajor_val_three]
    show (16 * a.val + g.val) * 2048 + t.val = (a.val * 16 + g.val) * 2048 + t.val
    omega)]
  show mag (k0_pay15 M xk (ix2 ⟨16 * a.val + g.val, by omega⟩ t)) = _
  rw [mm_rot hx hM _ _ (by simp only; omega)]
  have d1 : (16 * a.val + g.val) / 16 = a.val := by omega
  have d2 : (16 * a.val + g.val) % 16 = g.val := by omega
  refine congrArg₂ (fun g j => mag (rot X n t g j)) (Fin.ext ?_) (Fin.ext ?_)
  · show 16 * K.val + ((16 * a.val + g.val) % 16 * 16 + (16 * a.val + g.val) / 16) / 16 = 16 * K.val + g.val
    rw [d1, d2]
    omega
  · show ((16 * a.val + g.val) % 16 * 16 + (16 * a.val + g.val) / 16) % 16 = a.val
    rw [d1, d2]
    omega

theorem pay8_eq (M : Vec Ideal S256x256 .bf16) (xk : Vec Ideal S2048x256 .bf16) : k0_pay8 M xk = k0_pay6 M xk := rfl
theorem pay11_eq (M : Vec Ideal S256x256 .bf16) (xk : Vec Ideal S2048x256 .bf16) : k0_pay11 M xk = k0_pay6 M xk := rfl

/-! ## A tile -/

/-- A tile of the argument. -/
def IsTile (X : Arr) (n : Fin 48) (x : Vec Ideal S2048x768 .bf16) : Prop := ∀ (t : Fin 2048) (k : Fin 768), x (ix2 t k) = X (ix3 n t k)

theorem IsTile.ch0 {x : Vec Ideal S2048x768 .bf16} (h : IsTile X n x) : IsChunk X n 0 (ch0 x) := fun t k => by
  refine (h t ⟨k.val, by omega⟩).trans (congrArg (fun q => X (ix3 n t q)) (Fin.ext ?_))
  show k.val = 256 * 0 + k.val
  omega
theorem IsTile.ch1 {x : Vec Ideal S2048x768 .bf16} (h : IsTile X n x) : IsChunk X n 1 (ch1 x) := fun t k =>
  (h t ⟨256 + k.val, by omega⟩).trans (congrArg (fun q => X (ix3 n t q)) (Fin.ext (by show 256 + k.val = 256 * 1 + k.val; omega)))
theorem IsTile.ch2 {x : Vec Ideal S2048x768 .bf16} (h : IsTile X n x) : IsChunk X n 2 (ch2 x) := fun t k =>
  (h t ⟨512 + k.val, by omega⟩).trans (congrArg (fun q => X (ix3 n t q)) (Fin.ext (by show 512 + k.val = 256 * 2 + k.val; omega)))

/-- A tile's block maxima. -/
theorem bmOf_eq {x : Vec Ideal S2048x768 .bf16} (hx : IsTile X n x) (hM : IsRot (fun r => r % 16 * 16 + r / 16) M) (g : Fin 48) (t : Fin 2048) :
    bmOf M x (ix2 g t) = bmx X n t g := by
  unfold bmOf
  by_cases h0 : g.val < 16
  · rw [dif_pos (show ((ix2 g t : S48x2048.Idx) 0).val < 16 from h0)]
    refine (pay6_eq hx.ch0 hM ⟨g.val, h0⟩ t).trans (congrArg (bmx X n t) (Fin.ext ?_))
    show 16 * 0 + g.val = g.val
    omega
  · rw [dif_neg (show ¬((ix2 g t : S48x2048.Idx) 0).val < 16 from h0)]
    by_cases h1 : g.val < 32
    · rw [dif_pos (show ((ix2 g t : S48x2048.Idx) 0).val < 32 from h1)]
      refine (pay6_eq hx.ch1 hM ⟨g.val - 16, by omega⟩ t).trans (congrArg (bmx X n t) (Fin.ext ?_))
      show 16 * 1 + (g.val - 16) = g.val
      omega
    · rw [dif_neg (show ¬((ix2 g t : S48x2048.Idx) 0).val < 32 from h1)]
      refine (pay6_eq hx.ch2 hM ⟨g.val - 32, by omega⟩ t).trans (congrArg (bmx X n t) (Fin.ext ?_))
      show 16 * 2 + (g.val - 32) = g.val
      omega

theorem mag_nonneg (x : EReal) : 0 ≤ mag x := by
  unfold mag
  rcases le_total 0 x with h | h
  · exact le_max_of_le_left h
  · exact le_max_of_le_right (EReal.neg_nonneg.mpr h)

theorem bmx_nonneg (X : Arr) (n : Fin 48) (t : Fin 2048) (g : Fin 48) : 0 ≤ bmx X n t g :=
  (mag_nonneg _).trans (Finset.le_sup (f := fun j : Fin 16 => mag (rot X n t g j)) (Finset.mem_univ 0))

/-- The first running maximum is a tile's. -/
theorem gmA_le {x : Vec Ideal S2048x768 .bf16} (hx : IsTile X n x) (hM : IsRot (fun r => r % 16 * 16 + r / 16) M) (c : EReal) :
    (∀ (s : Fin 16) (t : Fin 2048), gmA M x (ix2 s t) ≤ c) ↔ ∀ (t : Fin 2048) (g : Fin 48), bmx X n t g ≤ c := by
  have e : ∀ (s : Fin 16) (t : Fin 2048), gmA M x (ix2 s t)
      = max (max (max 0 (bmx X n t ⟨16 * (0 : Fin 3).val + s.val, by have := s.isLt; show 16 * 0 + s.val < 48; omega⟩)) (bmx X n t ⟨16 * (1 : Fin 3).val + s.val, by have := s.isLt; show 16 * 1 + s.val < 48; omega⟩)) (bmx X n t ⟨16 * (2 : Fin 3).val + s.val, by have := s.isLt; show 16 * 2 + s.val < 48; omega⟩) := by
    intro s t
    rw [← pay6_eq hx.ch0 hM s t, ← pay6_eq hx.ch1 hM s t, ← pay6_eq hx.ch2 hM s t]
    unfold gmA k0_pay3 k0_pay2
    simp only [shapeCast_self]
    unfold k0_pay10
    show max (max (max (Ideal.ofBits .f32 0x00000000#32) _) _) _ = _
    rw [show Ideal.ofBits .f32 0x00000000#32 = 0 by simp [Ideal.ofBits, Ideal.ieee]]
    rfl
  simp only [e, max_le_iff]
  constructor
  · intro h t g
    by_cases h0 : g.val < 16
    · refine le_of_eq_of_le (congrArg (bmx X n t) (Fin.ext ?_)) (h ⟨g.val, h0⟩ t).1.1.2
      show g.val = 16 * 0 + g.val
      omega
    by_cases h1 : g.val < 32
    · refine le_of_eq_of_le (congrArg (bmx X n t) (Fin.ext ?_)) (h ⟨g.val - 16, by omega⟩ t).1.2
      show g.val = 16 * 1 + (g.val - 16)
      omega
    · refine le_of_eq_of_le (congrArg (bmx X n t) (Fin.ext ?_)) (h ⟨g.val - 32, by omega⟩ t).2
      show g.val = 16 * 2 + (g.val - 32)
      omega
  · intro h s t
    exact ⟨⟨⟨(bmx_nonneg X n t 0).trans (h t 0), h t _⟩, h t _⟩, h t _⟩

/-- A later one is the larger of the earlier and the tile's. -/
theorem gmB_eq (M : Vec Ideal S256x256 .bf16) (x : Vec Ideal S2048x768 .bf16) (b : Vec Ideal S16x2048 .f32) (q : S16x2048.Idx) :
    gmB M x b q = max (b q) (gmA M x q) := by
  unfold gmB gmA k0_pay3 k0_pay4
  simp only [shapeCast_self]
  rfl

/-- The running maximum's own maximum. -/
def allMax (b : Vec Ideal S16x2048 .f32) : FVec Ideal S1 .f32 :=
  multiReduction .maximumf [1, 2] S1 (shapeCast S1x16x2048 b shapeCasts_S16x2048_S1x16x2048) 0xFF800000#32 reduces_S1x16x2048_S1 (.inl rfl) rfl

theorem one_f32 : Ideal.ofBits .f32 0x3F800000#32 = 1 := by simp [Ideal.ofBits, Ideal.ieee, -EReal.coe_mul]; norm_num
theorem zero_f32 : Ideal.ofBits .f32 0x00000000#32 = 0 := by simp [Ideal.ofBits, Ideal.ieee]

/-- The global scale's choice. -/
theorem sg_scalar (a : Ideal .f32) :
    Scalar.select (Scalar.cmpf .ogt a (Scalar.ofBits .f32 0x00000000#32)) (Scalar.divf a (Scalar.ofBits .f32 0x45280000#32)) (Scalar.ofBits .f32 0x3F800000#32) = sgOfMax a := by
  unfold sgOfMax
  show (if BitVec.ofBool (decide (Ideal.ofBits .f32 0x00000000#32 < a)) = 1#1 then Ideal.div a (Ideal.ofBits .f32 0x45280000#32) else Ideal.ofBits .f32 0x3F800000#32) = _
  rw [zero_f32, one_f32]
  by_cases hp : (0 : EReal) < a
  · rw [if_pos hp, decide_eq_true hp]; rfl
  · rw [if_neg hp, decide_eq_false hp]; rfl

theorem extract_one (v : FVec Ideal S1 .f32) : extractAt ![0, 0, 0] (shapeCast S1x1x1 v shapeCasts_S1_S1x1x1) inpos_S1x1x1_p0_0_0 = v (ix1 0) :=
  congrArg v (funext fun a => by
    match a with
    | ⟨0, _⟩ => exact Subsingleton.elim (α := Fin 1) _ _)

/-- The global scale of a running maximum whose entries' bounds are those of the block maxima. -/
theorem pay5_eq (b : Vec Ideal S16x2048 .f32) (h : ∀ c : EReal, (∀ (s : Fin 16) (t : Fin 2048), b (ix2 s t) ≤ c) ↔ ∀ (n : Fin 48) (t : Fin 2048) (g : Fin 48), bmx X n t g ≤ c) :
    k0_pay5 b = sgl X := by
  refine (sg_scalar _).trans (congrArg sgOfMax ((extract_one (allMax b)).trans ((max_eq_sup _ _ _ _ _).trans ?_)))
  refine eq_of_forall_ge_iff fun c => ?_
  rw [Finset.sup_le_iff, amx_le_iff, ← h c]
  constructor
  · intro hb s t
    have := hb (ix3 0 s t) (Finset.mem_filter.mpr ⟨Finset.mem_univ _, funext fun a => by
      match a with
      | ⟨0, _⟩ => exact Subsingleton.elim (α := Fin 1) _ _⟩)
    rwa [ValueIdx.shapeCast_ab_1ab_apply b _ 0 s t] at this
  · intro hp q _
    have hq : q = ix3 (0 : Fin 1) ⟨(q 1).val, (q 1).isLt⟩ ⟨(q 2).val, (q 2).isLt⟩ := by
      funext a
      match a with
      | ⟨0, _⟩ => exact Subsingleton.elim (α := Fin 1) _ _
      | ⟨1, _⟩ => rfl
      | ⟨2, _⟩ => rfl
    rw [hq]
    exact le_of_eq_of_le (ValueIdx.shapeCast_ab_1ab_apply b _ 0 _ _) (hp ⟨(q 1).val, (q 1).isLt⟩ ⟨(q 2).val, (q 2).isLt⟩)

end Cert.Value

end
-- ==== Proof.Value.RVal.lean ====
/- Hand-written, untrusted. The tensors of the reference's host line, at an index: the rotated entries, the block maxima,
   the global scale. -/
module

public import proofs.«01_k».proof.Proof.Value.RHost
public import proofs.«01_k».proof.Proof.Value.KMax
public import Idealize.ShloMosaic.Lib.StackMember

@[expose] public section

set_option maxRecDepth 16384

noncomputable section

namespace Cert.Value.Ref

open Cert.ReferenceIdeal Cert.ReferenceIdeal.Gen
open Idealize.ShloMosaic Idealize.ShloMosaic.TcCoe
open Idealize.ShloMosaic.ValueIdx (ix1 ix2 ix3 ix4 eq_ix2 eq_ix3 eq_ix4)

/-! ## The rotation -/

theorem quarter32 : Ideal.ofBits .f32 0x3E800000#32 = ((1/4 : ℝ) : EReal) := by
  simp [Ideal.ofBits, Ideal.ieee, -EReal.coe_mul]; norm_num
theorem nquarter32 : Ideal.ofBits .f32 0xBE800000#32 = ((-1/4 : ℝ) : EReal) := by
  simp [Ideal.ofBits, Ideal.ieee, -EReal.coe_mul]; norm_num

/-- The parity of the common bits, on one pair of indices. -/
theorem par_scalar : ∀ i j : Fin 16, IntOp.cmpi .eq (IntOp.andi (IntOp.ctpop (IntOp.andi (BitVec.ofNat 32 i.val) (BitVec.ofNat 32 j.val))) 1#32) 0#32
    = if odd4 i.val j.val then 0#1 else 1#1 := by decide +kernel

theorem parT_apply (i j : Fin 16) : parT (ix2 i j) = if odd4 i.val j.val then 0#1 else 1#1 := par_scalar i j

theorem hadT_apply (i j : Fin 16) : hadT (ix2 i j) = h4 i.val j.val := by
  have e : hadT (ix2 i j) = if parT (ix2 i j) = 1#1 then Ideal.ofBits .f32 0x3E800000#32 else Ideal.ofBits .f32 0xBE800000#32 := rfl
  rw [e, parT_apply, quarter32, nquarter32]
  unfold h4
  cases odd4 i.val j.val
  · rfl
  · rfl

/-- The identity, on one pair of indices. -/
theorem eye_scalar : ∀ a b : Fin 48, IntOp.cmpi .eq (IntOp.addi (BitVec.ofNat 32 a.val) 0#32) (BitVec.ofNat 32 b.val) = if a = b then 1#1 else 0#1 := by decide +kernel

theorem eyeT_apply (a b : Fin 48) : eyeT (ix2 a b) = if a = b then (1 : EReal) else 0 := by
  have e : eyeT (ix2 a b) = (((IntOp.cmpi .eq (IntOp.addi (BitVec.ofNat 32 a.val) 0#32) (BitVec.ofNat 32 b.val)).toNat : ℝ) : EReal) := rfl
  rw [e, eye_scalar]
  by_cases h : a = b
  · rw [if_pos h, if_pos h]; simp
  · rw [if_neg h, if_neg h]; simp

theorem kron4_apply (e : FVec Ideal S48x48 .f32) (h : FVec Ideal S16x16 .f32) (a b : Fin 48) (i j : Fin 16) :
    kron4 e h (ix4 a i b j) = e (ix2 a b) * h (ix2 i j) := by
  have q : kron4 e h (ix4 a i b j) = e (fun x => (ix2 a b : S48x48.Idx) x) * h (fun x => (ix2 i j : S16x16.Idx) x) := by
    unfold kron4
    show _ * _ = _
    refine congrArg₂ (fun a b : EReal => a * b) (congrArg e ?_) (congrArg h ?_)
    · funext x
      match x with
      | ⟨0, _⟩ => rfl
      | ⟨1, _⟩ => rfl
    · funext x
      match x with
      | ⟨0, _⟩ => rfl
      | ⟨1, _⟩ => rfl
  exact q

/-- The block-diagonal rotation's entry, input by output. -/
theorem kronT_apply (a b : Fin 48) (i j : Fin 16) (k q : Fin 768) (hk : k.val = 16 * a.val + i.val) (hq : q.val = 16 * b.val + j.val) :
    kronT eyeT hadT (ix2 k q) = if a = b then h4 i.val j.val else 0 := by
  unfold kronT
  refine (shapeCast_apply _ _ _ (ix4 a i b j) ?_).trans ?_
  · rw [Shape.rowMajor_val_two, Shape.rowMajor_val_four]
    show ((a.val * 16 + i.val) * 48 + b.val) * 16 + j.val = k.val * 768 + q.val
    omega
  · rw [kron4_apply, eyeT_apply, hadT_apply]
    split
    · exact one_mul _
    · exact zero_mul _

/-! ## The rotated input -/

variable (m : (ℓ : Loc nD τ sig) → Buf (Elt Ideal) ℓ)

/-- The input of device `c`, as an array of extended reals. -/
def xinR (c : Dev nD) : Arr := m (c.tc.loc main_arg0)

theorem dot_plain : dot_S98304x768_S768x768_S98304x768_1_0_0_1_n_n = DotDims.plain 98304 768 768 := rfl

theorem rotT_apply (x : FVec Ideal S48x2048x768 .bf16) (n : Fin 48) (t : Fin 2048) (g : Fin 48) (j : Fin 16) :
    rotT x (kronT eyeT hadT) (ix4 n t g j) = rot x n t g j := by
  unfold rotT
  refine (shapeCast_apply _ _ _ (ix2 (⟨2048 * n.val + t.val, by omega⟩ : Fin 98304) (⟨16 * g.val + j.val, by omega⟩ : Fin 768)) ?_).trans ?_
  · rw [Shape.rowMajor_val_two, Shape.rowMajor_val_four]
    show (2048 * n.val + t.val) * 768 + (16 * g.val + j.val) = ((n.val * 2048 + t.val) * 48 + g.val) * 16 + j.val
    omega
  rw [dot_plain]
  refine (StackMember.dotGeneral_plain_apply none _ _ _ _).trans ?_
  refine (sum_block 768 _ g.val (by omega) ?_).trans ?_
  · intro k hk
    have z : kronT eyeT hadT (ix2 k (⟨16 * g.val + j.val, by omega⟩ : Fin 768)) = 0 := by
      refine (kronT_apply (⟨k.val / 16, by omega⟩ : Fin 48) g (⟨k.val % 16, by omega⟩ : Fin 16) j k _ (by show k.val = 16 * (k.val / 16) + k.val % 16; omega) rfl).trans ?_
      exact if_neg fun h => hk (congrArg Fin.val h)
    refine (congrArg (fun w : EReal => _ * w) z).trans (mul_zero _)
  · unfold rot
    refine Finset.sum_congr rfl fun i _ => ?_
    refine (congrArg₂ (fun a b : EReal => a * b) ?_ ((kronT_apply g g i j _ _ rfl rfl).trans (if_pos rfl))).trans (mul_comm _ _)
    refine shapeCast_apply _ _ _ (ix3 n t (col g i)) ?_
    rw [Shape.rowMajor_val_two, Shape.rowMajor_val_three]
    show (n.val * 2048 + t.val) * 768 + (16 * g.val + i.val) = (2048 * n.val + t.val) * 768 + (16 * g.val + i.val)
    omega

theorem yT_apply (c : Dev nD) (n : Fin 48) (t : Fin 2048) (g : Fin 48) (j : Fin 16) : yT m c (ix4 n t g j) = rot (xinR m c) n t g j :=
  rotT_apply _ n t g j

/-! ## The maxima -/

theorem drop4 (q : S48x2048x48x16.Idx) : reducesTo_S48x2048x48x16_S48x2048x48_d3.drop q = ix3 (q 0) (q 1) (q 2) := by
  funext a
  match a with
  | ⟨0, _⟩ => rfl
  | ⟨1, _⟩ => rfl
  | ⟨2, _⟩ => rfl

theorem maxT_apply (c : Dev nD) (n : Fin 48) (t : Fin 2048) (g : Fin 48) : maxT (yT m c) (ix3 n t g) = bmx (xinR m c) n t g := by
  unfold maxT
  refine (hostMax_eq_sup _ _ _ _ ofBits_ninf _).trans ?_
  unfold bmx
  apply le_antisymm
  · refine Finset.sup_le fun q hq => ?_
    have h := (drop4 q).symm.trans (Finset.mem_filter.mp hq).2
    have h0 : q 0 = n := congrFun h 0
    have h1 : q 1 = t := congrFun h 1
    have h2 : q 2 = g := congrFun h 2
    have e : q = ix4 n t g (q 3) := (eq_ix4 q).trans (by rw [h0, h1, h2]; rfl)
    refine le_of_eq_of_le ?_ (Finset.le_sup (f := fun j : Fin 16 => mag (rot (xinR m c) n t g j)) (Finset.mem_univ (q 3)))
    exact (congrArg (Host.absf (yT m c)) e).trans (congrArg mag (yT_apply m c n t g (q 3)))
  · refine Finset.sup_le fun j _ => ?_
    refine le_of_eq_of_le (congrArg mag (yT_apply m c n t g j)).symm ?_
    exact Finset.le_sup (f := Host.absf (yT m c)) (Finset.mem_filter.mpr ⟨Finset.mem_univ _, drop4 _⟩)

theorem topT_apply (c : Dev nD) (p : S_.Idx) : topT (maxT (yT m c)) p = amx (xinR m c) := by
  unfold topT
  refine (hostMax_eq_sup _ _ _ _ ofBits_ninf _).trans ?_
  apply le_antisymm
  · refine Finset.sup_le fun q _ => ?_
    refine le_of_eq_of_le ((congrArg (maxT (yT m c)) (eq_ix3 q)).trans (maxT_apply m c (q 0) (q 1) (q 2))) ?_
    exact (amx_le_iff _ _).mp le_rfl (q 0) (q 1) (q 2)
  · rw [amx_le_iff]
    intro n t g
    rw [← maxT_apply]
    refine Finset.le_sup (f := maxT (yT m c)) (Finset.mem_filter.mpr ⟨Finset.mem_univ _, ?_⟩)
    funext a
    exact a.elim0

theorem sgT_apply (a : FVec Ideal S_ .f32) (p : S_.Idx) : sgT a p = sgOfMax (a p) := sg_scalar (a p)

/-- The reference's global scale. -/
theorem sgl_eq (c : Dev nD) (p : S_.Idx) : sgT (topT (maxT (yT m c))) p = sgl (xinR m c) :=
  (sgT_apply _ p).trans (congrArg sgOfMax (topT_apply m c p))

end Cert.Value.Ref
-- ==== Proof.Value.RReg.lean ====
/- Hand-written, untrusted. The values of the reference's region, at an index, from what its loads hold. -/
module

public import proofs.«01_k».proof.Proof.Value.RVal
public import Idealize.ShloMosaic.Lib.Pipeline.ValueKit.Basic

@[expose] public section

set_option maxRecDepth 16384

noncomputable section

namespace Cert.Value.Ref

open Cert.ReferenceIdeal Cert.ReferenceIdeal.Gen
open Idealize.ShloMosaic Idealize.ShloMosaic.TcCoe
open Idealize.ShloMosaic.ValueIdx (ix1 ix2 ix3 ix4 eq_ix2 eq_ix3 eq_ix4)

/-! ## The literals -/

theorem l_half : Ideal.ofBits .f32 0x3F000000#32 = ((1/2 : ℝ) : EReal) := by simp [Ideal.ofBits, Ideal.ieee, -EReal.coe_mul]; norm_num
theorem l_one : Ideal.ofBits .f32 0x3F800000#32 = ((1 : ℝ) : EReal) := one_f32.trans EReal.coe_one.symm
theorem l_onehalf : Ideal.ofBits .f32 0x3FC00000#32 = ((3/2 : ℝ) : EReal) := by simp [Ideal.ofBits, Ideal.ieee, -EReal.coe_mul]; norm_num
theorem l_two : Ideal.ofBits .f32 0x40000000#32 = ((2 : ℝ) : EReal) := by simp [Ideal.ofBits, Ideal.ieee, -EReal.coe_mul]; norm_num
theorem l_three : Ideal.ofBits .f32 0x40400000#32 = ((3 : ℝ) : EReal) := by simp [Ideal.ofBits, Ideal.ieee, -EReal.coe_mul]; norm_num
theorem l_four : Ideal.ofBits .f32 0x40800000#32 = ((4 : ℝ) : EReal) := by simp [Ideal.ofBits, Ideal.ieee, -EReal.coe_mul]; norm_num
theorem l_six : Ideal.ofBits .f32 0x40C00000#32 = ((6 : ℝ) : EReal) := by simp [Ideal.ofBits, Ideal.ieee, -EReal.coe_mul]; norm_num
theorem l_nsix : Ideal.ofBits .f32 0xC0C00000#32 = ((-6 : ℝ) : EReal) := by simp [Ideal.ofBits, Ideal.ieee, -EReal.coe_mul]; norm_num

/-! ## The block scale and the scaled entry -/

variable (v0 : Vec Ideal S48x2048x48x16 .f32) (v2 : Vec Ideal S1x1x1 .f32) (v4 : Vec Ideal S48x2048x48 .f32)

theorem pay3_apply (s : EReal) (hs : ∀ q, v2 q = s) (p : S48x2048x48.Idx) : k0_pay3 v2 v4 p = sbOf (v4 p) s := by
  unfold k0_pay3 k0_pay2
  simp only [shapeCast_self]
  show min (Ideal.ofBits .f32 0x43E00000#32) (max (Ideal.ofBits .f32 0x00000000#32) (Ideal.div (v4 p) (Ideal.ofBits .f32 0x40C00000#32 * v2 _))) = _
  rw [hs, zero_f32]
  rfl

/-- The divisor of each block. -/
def effT : FVec Ideal S48x2048x48 .f32 := fun p =>
  if k0_pay3 v2 v4 p * v2 (ix3 0 0 0) = (0 : EReal) then (1 : EReal) else k0_pay3 v2 v4 p * v2 (ix3 0 0 0)

theorem effT_apply (s : EReal) (hs : ∀ q, v2 q = s) (p : S48x2048x48.Idx) : effT v2 v4 p = effOf (v4 p) s := by
  unfold effT effOf
  rw [pay3_apply v2 v4 s hs p, hs]

/-- The choice of the divisor, on one value. -/
theorem eff_scalar (x : EReal) : Scalar.select (BitVec.ofBool (decide (x = Ideal.ofBits .f32 0x00000000#32))) (Ideal.ofBits .f32 0x3F800000#32) x = if x = 0 then 1 else x := by
  rw [zero_f32, one_f32]
  unfold Scalar.select
  by_cases h : x = 0
  · rw [if_pos h, decide_eq_true h]; rfl
  · rw [if_neg h, decide_eq_false h]; rfl

theorem pay4_apply (s : EReal) (hs : ∀ q, v2 q = s) (n : Fin 48) (t : Fin 2048) (g : Fin 48) (j : Fin 16) :
    k0_pay4 v0 v2 v4 (ix4 n t g j) = clip6 (Ideal.div (v0 (ix4 n t g j)) (effOf (v4 (ix3 n t g)) s)) := by
  have e : k0_pay4 v0 v2 v4 (ix4 n t g j) = min (Ideal.ofBits .f32 0x40C00000#32) (max (Ideal.ofBits .f32 0xC0C00000#32) (Ideal.div (v0 (ix4 n t g j))
      (broadcastTo S48x2048x48x16 (shapeCast S48x2048x48x1 (fun p => Scalar.select (BitVec.ofBool (decide (k0_pay3 v2 v4 p * v2 (fun a => ⟨0, by match a with | ⟨0, _⟩ => exact Nat.one_pos | ⟨1, _⟩ => exact Nat.one_pos | ⟨2, _⟩ => exact Nat.one_pos⟩) = Ideal.ofBits .f32 0x00000000#32)))
        (Ideal.ofBits .f32 0x3F800000#32) (k0_pay3 v2 v4 p * v2 (fun a => ⟨0, by match a with | ⟨0, _⟩ => exact Nat.one_pos | ⟨1, _⟩ => exact Nat.one_pos | ⟨2, _⟩ => exact Nat.one_pos⟩)) : FVec Ideal S48x2048x48 .f32) shapeCasts_S48x2048x48_S48x2048x48x1) broadcasts_S48x2048x48x1_S48x2048x48x16 (ix4 n t g j)))) := by
    unfold k0_pay4 k0_pay2
    simp only [shapeCast_self]
    refine congrArg (fun w => min (Ideal.ofBits .f32 0x40C00000#32) (max (Ideal.ofBits .f32 0xC0C00000#32) (Ideal.div (v0 (ix4 n t g j)) (broadcastTo S48x2048x48x16 (shapeCast S48x2048x48x1 w shapeCasts_S48x2048x48_S48x2048x48x1) broadcasts_S48x2048x48x1_S48x2048x48x16 (ix4 n t g j))))) (funext fun p => ?_)
    show Scalar.select (BitVec.ofBool (decide (k0_pay3 v2 v4 p * v2 _ = Ideal.ofBits .f32 0x00000000#32))) (Ideal.ofBits .f32 0x3F800000#32) (k0_pay3 v2 v4 p * v2 _) = _
    rw [hs, hs]
  rw [e, l_six, l_nsix]
  unfold clip6
  refine congrArg (fun w => min ((6 : ℝ) : EReal) (max ((-6 : ℝ) : EReal) (Ideal.div (v0 (ix4 n t g j)) w))) ?_
  refine (broadcastTo_apply _ _ _ (ix4 n t g (0 : Fin 1)) fun a => ?_).trans ?_
  · match a with
    | ⟨0, _⟩ => rfl
    | ⟨1, _⟩ => rfl
    | ⟨2, _⟩ => rfl
    | ⟨3, _⟩ => rfl
  refine (shapeCast_apply _ _ _ (ix3 n t g) ?_).trans ?_
  · rw [Shape.rowMajor_val_three, Shape.rowMajor_val_four]
    show (n.val * 2048 + t.val) * 48 + g.val = ((n.val * 2048 + t.val) * 48 + g.val) * 1 + 0
    omega
  refine (eff_scalar _).trans ?_
  rw [hs, pay3_apply v2 v4 s hs]
  rfl

/-! ## The code -/

theorem ext_b1 (p : Prop) [Decidable p] : (BitVec.ofBool (decide p)).setWidth 32 = b1 p := by
  unfold b1
  by_cases h : p
  · rw [if_pos h, decide_eq_true h]; rfl
  · rw [if_neg h, decide_eq_false h]; rfl

theorem sel_bool {α : Type} (p : Prop) [Decidable p] (x y : α) : Scalar.select (BitVec.ofBool (decide p)) x y = if p then x else y := by
  unfold Scalar.select
  by_cases h : p
  · rw [if_pos h, decide_eq_true h]; rfl
  · rw [if_neg h, decide_eq_false h]; rfl

/-- The rounded value. -/
theorem pay7_apply (p : S48x2048x48x16.Idx) :
    k0_pay7 (k0_pay4 v0 v2 v4) (k0_pay5 v0 v2 v4) (k0_pay6 v0 v2 v4) p = quant (k0_pay4 v0 v2 v4 p) := by
  have st : (Scalar.select (BitVec.ofBool (decide (mag (k0_pay4 v0 v2 v4 p) < Ideal.ofBits .f32 0x40000000#32))) (Ideal.ofBits .f32 0x3F000000#32)
      (Scalar.select (BitVec.ofBool (decide (mag (k0_pay4 v0 v2 v4 p) < Ideal.ofBits .f32 0x40800000#32))) (Ideal.ofBits .f32 0x3F800000#32) (Ideal.ofBits .f32 0x40000000#32)) : EReal)
      = stepOf (k0_pay4 v0 v2 v4 p) := by
    rw [sel_bool, sel_bool, l_two, l_half, l_four, l_one]
    rfl
  unfold quant
  rw [← st]
  rfl

/-- The code of the rounded value. -/
theorem code_apply (p : S48x2048x48x16.Idx) :
    addi (k0_pay8 (k0_pay4 v0 v2 v4) (k0_pay5 v0 v2 v4) (k0_pay6 v0 v2 v4)) (k0_pay9 (k0_pay4 v0 v2 v4) (k0_pay5 v0 v2 v4) (k0_pay6 v0 v2 v4)) p
      = vcode (quant (k0_pay4 v0 v2 v4 p)) := by
  rw [← pay7_apply]
  unfold k0_pay8 k0_pay9
  generalize k0_pay7 (k0_pay4 v0 v2 v4) (k0_pay5 v0 v2 v4) (k0_pay6 v0 v2 v4) = q
  show Scalar.select (BitVec.ofBool (decide ((q p : EReal) < Ideal.ofBits .f32 0x00000000#32))) 8#32 0#32
    + (BitVec.ofBool (decide (Ideal.ofBits .f32 0x3F000000#32 ≤ mag (q p)))).setWidth 32
    + (BitVec.ofBool (decide (Ideal.ofBits .f32 0x3F800000#32 ≤ mag (q p)))).setWidth 32
    + (BitVec.ofBool (decide (Ideal.ofBits .f32 0x3FC00000#32 ≤ mag (q p)))).setWidth 32
    + (BitVec.ofBool (decide (Ideal.ofBits .f32 0x40000000#32 ≤ mag (q p)))).setWidth 32
    + (BitVec.ofBool (decide (Ideal.ofBits .f32 0x40400000#32 ≤ mag (q p)))).setWidth 32
    + (BitVec.ofBool (decide (Ideal.ofBits .f32 0x40800000#32 ≤ mag (q p)))).setWidth 32
    + (BitVec.ofBool (decide (Ideal.ofBits .f32 0x40C00000#32 ≤ mag (q p)))).setWidth 32 = _
  simp only [ext_b1, sel_bool]
  rw [zero_f32, l_half, l_one, l_onehalf, l_two, l_three, l_four, l_six]
  rfl

/-! ## The byte -/

/-- Two neighbouring codes to a byte. -/
theorem pay1_apply (a b : IVec S48x2048x48x16 32) (n : Fin 48) (t : Fin 2048) (q : Fin 384) :
    k0_pay1 a b (ix3 n t q) = (addi a b (ix4 n t (⟨q.val / 8, by omega⟩ : Fin 48) (⟨2 * (q.val % 8), by omega⟩ : Fin 16))
      + 16#32 * addi a b (ix4 n t (⟨q.val / 8, by omega⟩ : Fin 48) (⟨2 * (q.val % 8) + 1, by omega⟩ : Fin 16))).setWidth 8 := by
  unfold k0_pay1
  generalize addi a b = w
  show (shapeCast S48x2048x384 _ _ (ix3 n t q) + 16#32 * shapeCast S48x2048x384 _ _ (ix3 n t q)).setWidth 8 = _
  refine congrArg₂ (fun x y : BitVec 32 => (x + 16#32 * y).setWidth 8) ?_ ?_
  · refine (shapeCast_apply _ _ _ (ix4 n t q (0 : Fin 1)) ?_).trans ?_
    · rw [Shape.rowMajor_val_three, Shape.rowMajor_val_four]
      show ((n.val * 2048 + t.val) * 384 + q.val) * 1 + 0 = (n.val * 2048 + t.val) * 384 + q.val
      omega
    refine Eq.trans (b := shapeCast S48x2048x384x2 w shapeCasts_S48x2048x48x16_S48x2048x384x2 (ix4 n t q (0 : Fin 2))) ?_ ?_
    · unfold extractStridedSlice
      refine congrArg _ (funext fun a => Fin.ext ?_)
      match a with
      | ⟨0, _⟩ => exact Nat.zero_add _
      | ⟨1, _⟩ => exact Nat.zero_add _
      | ⟨2, _⟩ => exact Nat.zero_add _
      | ⟨3, _⟩ => rfl
    refine shapeCast_apply _ _ _ _ ?_
    rw [Shape.rowMajor_val_four, Shape.rowMajor_val_four]
    show ((n.val * 2048 + t.val) * 48 + q.val / 8) * 16 + 2 * (q.val % 8) = ((n.val * 2048 + t.val) * 384 + q.val) * 2 + 0
    omega
  · refine (shapeCast_apply _ _ _ (ix4 n t q (0 : Fin 1)) ?_).trans ?_
    · rw [Shape.rowMajor_val_three, Shape.rowMajor_val_four]
      show ((n.val * 2048 + t.val) * 384 + q.val) * 1 + 0 = (n.val * 2048 + t.val) * 384 + q.val
      omega
    refine Eq.trans (b := shapeCast S48x2048x384x2 w shapeCasts_S48x2048x48x16_S48x2048x384x2 (ix4 n t q (1 : Fin 2))) ?_ ?_
    · unfold extractStridedSlice
      refine congrArg _ (funext fun a => Fin.ext ?_)
      match a with
      | ⟨0, _⟩ => exact Nat.zero_add _
      | ⟨1, _⟩ => exact Nat.zero_add _
      | ⟨2, _⟩ => exact Nat.zero_add _
      | ⟨3, _⟩ => rfl
    refine shapeCast_apply _ _ _ _ ?_
    rw [Shape.rowMajor_val_four, Shape.rowMajor_val_four]
    show ((n.val * 2048 + t.val) * 48 + q.val / 8) * 16 + (2 * (q.val % 8) + 1) = ((n.val * 2048 + t.val) * 384 + q.val) * 2 + 1
    omega

/-- A word's low byte, by its value. -/
theorem low_byte (a b : BitVec 32) : (a + 16#32 * b).setWidth 8 = BitVec.ofNat 8 (a.toNat + 16 * b.toNat) := by
  apply BitVec.eq_of_toNat_eq
  rw [BitVec.toNat_setWidth, BitVec.toNat_add, BitVec.toNat_mul]
  show (a.toNat + (16 * b.toNat) % 2 ^ 32) % 2 ^ 32 % 2 ^ 8 = (a.toNat + 16 * b.toNat) % 2 ^ 8
  omega

end Cert.Value.Ref
-- ==== Proof.Value.TableFind.lean ====
/- Hand-written, untrusted. The kernel's two literal matrices, entry by entry: sixteen copies of the 16 × 16 Hadamard
   rotation on the diagonal, the first matrix with its rows regrouped. -/
module

public import proofs.«01_k».proof.Proof.KernelIdeal.Vals
public import proofs.«01_k».proof.Proof.Value.Hadamard
public import Mathlib.Tactic.IntervalCases

@[expose] public section

set_option maxRecDepth 65536
set_option maxHeartbeats 0

namespace Cert.Value

open Idealize.ShloMosaic

/-- The bits of entry `(r, c)` of the block-diagonal rotation. -/
def bits4 (r c : ℕ) : BitVec 16 :=
  if r / 16 = c / 16 then (if odd4 (r % 16) (c % 16) then 0xBE80#16 else 0x3E80#16) else (if odd4 (r % 16) (c % 16) then 0x8000#16 else 0x0000#16)

/-- The row of the block-diagonal rotation that row `r` of the regrouped one is. -/
def regroup (r : ℕ) : ℕ := r % 16 * 16 + r / 16

/-- The two matrices, row-major. -/
def flat1 (i : ℕ) : BitVec 16 := bits4 (i / 256) (i % 256)
def flat0 (i : ℕ) : BitVec 16 := bits4 (regroup (i / 256)) (i % 256)

/-- The values of `p` from `k` on. -/
def tab {α : Type} (p : ℕ → α) : ℕ → ℕ → List α
  | _, 0 => []
  | k, n + 1 => p k :: tab p (k + 1) n

theorem tab_getD {α : Type} (p : ℕ → α) (x : α) : ∀ (m k n : ℕ), n < m → (tab p k m).getD n x = p (k + n)
  | 0, _, n, h => absurd h (Nat.not_lt_zero n)
  | m + 1, k, 0, _ => rfl
  | m + 1, k, n + 1, h => by
    have := tab_getD p x m (k + 1) n (by omega)
    rw [show k + (n + 1) = k + 1 + n by omega, ← this]
    rfl

/-- A lookup by cases in a table of 128 entries finds entry `n`. -/
theorem findA {p : ℕ → BitVec 16} {n : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab p 0 128) (hn : n < 128) :
    Cert.KernelIdeal.lit0t0_0.match_1 (fun _ => BitVec 16) n a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = p n := by
  have e := tab_getD p 0#16 128 0 n hn
  rw [Nat.zero_add, ← h] at e
  rw [← e]
  interval_cases n <;> rfl

theorem leafA0 {i q : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab (fun c => flat0 (128 * q + c)) 0 128) :
    Cert.KernelIdeal.lit0t0_0.match_1 (fun _ => BitVec 16) (i % 128) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = flat0 (128 * q + i % 128) := findA h (Nat.mod_lt _ (by decide))

theorem leafA1 {i q : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab (fun c => flat1 (128 * q + c)) 0 128) :
    Cert.KernelIdeal.lit0t0_0.match_1 (fun _ => BitVec 16) (i % 128) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = flat1 (128 * q + i % 128) := findA h (Nat.mod_lt _ (by decide))

/-- A lookup by cases in a table of 128 entries finds entry `n`. -/
theorem findB {p : ℕ → BitVec 16} {n : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab p 0 128) (hn : n < 128) :
    Cert.KernelIdeal.lit0t0_375.match_1 (fun _ => BitVec 16) n a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = p n := by
  have e := tab_getD p 0#16 128 0 n hn
  rw [Nat.zero_add, ← h] at e
  rw [← e]
  interval_cases n <;> rfl

theorem leafB0 {i q : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab (fun c => flat0 (128 * q + c)) 0 128) :
    Cert.KernelIdeal.lit0t0_375.match_1 (fun _ => BitVec 16) (i % 128) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = flat0 (128 * q + i % 128) := findB h (Nat.mod_lt _ (by decide))

theorem leafB1 {i q : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab (fun c => flat1 (128 * q + c)) 0 128) :
    Cert.KernelIdeal.lit0t0_375.match_1 (fun _ => BitVec 16) (i % 128) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = flat1 (128 * q + i % 128) := findB h (Nat.mod_lt _ (by decide))

/-- A lookup by cases in a table of 128 entries finds entry `n`. -/
theorem findC {p : ℕ → BitVec 16} {n : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab p 0 128) (hn : n < 128) :
    Cert.KernelIdeal.lit1t0_450.match_1 (fun _ => BitVec 16) n a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = p n := by
  have e := tab_getD p 0#16 128 0 n hn
  rw [Nat.zero_add, ← h] at e
  rw [← e]
  interval_cases n <;> rfl

theorem leafC0 {i q : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab (fun c => flat0 (128 * q + c)) 0 128) :
    Cert.KernelIdeal.lit1t0_450.match_1 (fun _ => BitVec 16) (i % 128) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = flat0 (128 * q + i % 128) := findC h (Nat.mod_lt _ (by decide))

theorem leafC1 {i q : ℕ} {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 : Unit → BitVec 16} {d : ℕ → BitVec 16}
    (h : [a0 (), a1 (), a2 (), a3 (), a4 (), a5 (), a6 (), a7 (), a8 (), a9 (), a10 (), a11 (), a12 (), a13 (), a14 (), a15 (), a16 (), a17 (), a18 (), a19 (), a20 (), a21 (), a22 (), a23 (), a24 (), a25 (), a26 (), a27 (), a28 (), a29 (), a30 (), a31 (), a32 (), a33 (), a34 (), a35 (), a36 (), a37 (), a38 (), a39 (), a40 (), a41 (), a42 (), a43 (), a44 (), a45 (), a46 (), a47 (), a48 (), a49 (), a50 (), a51 (), a52 (), a53 (), a54 (), a55 (), a56 (), a57 (), a58 (), a59 (), a60 (), a61 (), a62 (), a63 (), a64 (), a65 (), a66 (), a67 (), a68 (), a69 (), a70 (), a71 (), a72 (), a73 (), a74 (), a75 (), a76 (), a77 (), a78 (), a79 (), a80 (), a81 (), a82 (), a83 (), a84 (), a85 (), a86 (), a87 (), a88 (), a89 (), a90 (), a91 (), a92 (), a93 (), a94 (), a95 (), a96 (), a97 (), a98 (), a99 (), a100 (), a101 (), a102 (), a103 (), a104 (), a105 (), a106 (), a107 (), a108 (), a109 (), a110 (), a111 (), a112 (), a113 (), a114 (), a115 (), a116 (), a117 (), a118 (), a119 (), a120 (), a121 (), a122 (), a123 (), a124 (), a125 (), a126 (), a127 ()] = tab (fun c => flat1 (128 * q + c)) 0 128) :
    Cert.KernelIdeal.lit1t0_450.match_1 (fun _ => BitVec 16) (i % 128) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 a64 a65 a66 a67 a68 a69 a70 a71 a72 a73 a74 a75 a76 a77 a78 a79 a80 a81 a82 a83 a84 a85 a86 a87 a88 a89 a90 a91 a92 a93 a94 a95 a96 a97 a98 a99 a100 a101 a102 a103 a104 a105 a106 a107 a108 a109 a110 a111 a112 a113 a114 a115 a116 a117 a118 a119 a120 a121 a122 a123 a124 a125 a126 a127 d = flat1 (128 * q + i % 128) := findC h (Nat.mod_lt _ (by decide))

end Cert.Value

end
-- ==== Proof.Value.Table0.lean ====
/- Hand-written, untrusted. The first literal matrix, entry by entry. -/
module

public import proofs.«01_k».proof.Proof.Value.TableFind

@[expose] public section

set_option maxRecDepth 65536
set_option maxHeartbeats 0

namespace Cert.Value

open Idealize.ShloMosaic

theorem part0_0 (i : ℕ) : Cert.KernelIdeal.lit0t1_0 i = flat0 (128 * (128 * 0 + i / 128 % 128) + i % 128) := by
  refine findB (p := fun b => flat0 (128 * (128 * 0 + b) + i % 128)) (n := i / 128 % 128) ?_ (Nat.mod_lt _ (by decide))
  repeat' first | exact rfl | refine congrArg₂ List.cons (by first | exact leafA0 (by decide +kernel) | exact leafB0 (by decide +kernel)) ?_

theorem part0_1 (i : ℕ) : Cert.KernelIdeal.lit0t1_1 i = flat0 (128 * (128 * 1 + i / 128 % 128) + i % 128) := by
  refine findB (p := fun b => flat0 (128 * (128 * 1 + b) + i % 128)) (n := i / 128 % 128) ?_ (Nat.mod_lt _ (by decide))
  repeat' first | exact rfl | refine congrArg₂ List.cons (by first | exact leafA0 (by decide +kernel) | exact leafB0 (by decide +kernel)) ?_

theorem part0_2 (i : ℕ) : Cert.KernelIdeal.lit0t1_2 i = flat0 (128 * (128 * 2 + i / 128 % 128) + i % 128) := by
  refine findB (p := fun b => flat0 (128 * (128 * 2 + b) + i % 128)) (n := i / 128 % 128) ?_ (Nat.mod_lt _ (by decide))
  repeat' first | exact rfl | refine congrArg₂ List.cons (by first | exact leafA0 (by decide +kernel) | exact leafB0 (by decide +kernel)) ?_

theorem part0_3 (i : ℕ) : Cert.KernelIdeal.lit0t1_3 i = flat0 (128 * (128 * 3 + i / 128 % 128) + i % 128) := by
  refine findB (p := fun b => flat0 (128 * (128 * 3 + b) + i % 128)) (n := i / 128 % 128) ?_ (Nat.mod_lt _ (by decide))
  repeat' first | exact rfl | refine congrArg₂ List.cons (by first | exact leafA0 (by decide +kernel) | exact leafB0 (by decide +kernel)) ?_

theorem lit0_eq (i : ℕ) (h : i < 65536) : Cert.KernelIdeal.lit0t i = flat0 i := by
  have e : i = 128 * (128 * (i / 16384) + i / 128 % 128) + i % 128 := by omega
  have l : i / 16384 < 4 := by omega
  have key : Cert.KernelIdeal.lit0t i = flat0 (128 * (128 * (i / 16384) + i / 128 % 128) + i % 128) := by
    unfold Cert.KernelIdeal.lit0t
    generalize i / 16384 = a at l
    interval_cases a
    · exact part0_0 i
    · exact part0_1 i
    · exact part0_2 i
    · exact part0_3 i
  rw [key, ← e]

end Cert.Value

end
-- ==== Proof.Value.Table1.lean ====
/- Hand-written, untrusted. The second literal matrix, entry by entry. -/
module

public import proofs.«01_k».proof.Proof.Value.TableFind

@[expose] public section

set_option maxRecDepth 65536
set_option maxHeartbeats 0

namespace Cert.Value

open Idealize.ShloMosaic

theorem part1_0 (i : ℕ) : Cert.KernelIdeal.lit1t1_0 i = flat1 (128 * (128 * 0 + i / 128 % 128) + i % 128) := by
  refine findC (p := fun b => flat1 (128 * (128 * 0 + b) + i % 128)) (n := i / 128 % 128) ?_ (Nat.mod_lt _ (by decide))
  repeat' first | exact rfl | refine congrArg₂ List.cons (by first | exact leafB1 (by decide +kernel) | exact leafC1 (by decide +kernel)) ?_

theorem part1_1 (i : ℕ) : Cert.KernelIdeal.lit1t1_1 i = flat1 (128 * (128 * 1 + i / 128 % 128) + i % 128) := by
  refine findC (p := fun b => flat1 (128 * (128 * 1 + b) + i % 128)) (n := i / 128 % 128) ?_ (Nat.mod_lt _ (by decide))
  repeat' first | exact rfl | refine congrArg₂ List.cons (by first | exact leafB1 (by decide +kernel) | exact leafC1 (by decide +kernel)) ?_

theorem part1_2 (i : ℕ) : Cert.KernelIdeal.lit1t1_2 i = flat1 (128 * (128 * 2 + i / 128 % 128) + i % 128) := by
  refine findC (p := fun b => flat1 (128 * (128 * 2 + b) + i % 128)) (n := i / 128 % 128) ?_ (Nat.mod_lt _ (by decide))
  repeat' first | exact rfl | refine congrArg₂ List.cons (by first | exact leafB1 (by decide +kernel) | exact leafC1 (by decide +kernel)) ?_

theorem part1_3 (i : ℕ) : Cert.KernelIdeal.lit1t1_3 i = flat1 (128 * (128 * 3 + i / 128 % 128) + i % 128) := by
  refine findC (p := fun b => flat1 (128 * (128 * 3 + b) + i % 128)) (n := i / 128 % 128) ?_ (Nat.mod_lt _ (by decide))
  repeat' first | exact rfl | refine congrArg₂ List.cons (by first | exact leafB1 (by decide +kernel) | exact leafC1 (by decide +kernel)) ?_

theorem lit1_eq (i : ℕ) (h : i < 65536) : Cert.KernelIdeal.lit1t i = flat1 i := by
  have e : i = 128 * (128 * (i / 16384) + i / 128 % 128) + i % 128 := by omega
  have l : i / 16384 < 4 := by omega
  have key : Cert.KernelIdeal.lit1t i = flat1 (128 * (128 * (i / 16384) + i / 128 % 128) + i % 128) := by
    unfold Cert.KernelIdeal.lit1t
    generalize i / 16384 = a at l
    interval_cases a
    · exact part1_0 i
    · exact part1_1 i
    · exact part1_2 i
    · exact part1_3 i
  rw [key, ← e]

end Cert.Value

end
-- ==== Proof.Value.KBlk.lean ====
/- Hand-written, untrusted. What the kernel's input windows hold: a tile of the input, and the two rotation matrices. -/
module

public import proofs.«01_k».proof.Proof.Value.KMax
public import proofs.«01_k».proof.Proof.Value.Table0
public import proofs.«01_k».proof.Proof.Value.Table1
public import proofs.«01_k».proof.Proof.KernelIdeal.Body
public import Idealize.ShloMosaic.Lib.Claim
public import Idealize.ShloMosaic.Lib.Pipeline.ValueKit.Geometry

@[expose] public section

set_option maxRecDepth 16384

noncomputable section

namespace Cert.Value

open Cert.KernelIdeal Cert.KernelIdeal.Gen Cert.KernelIdeal.Hand
open Idealize.ShloMosaic Idealize.ShloMosaic.TcCoe Idealize.ShloMosaic.Tactic
open Idealize.ShloMosaic.ValueIdx (ix1 ix2 ix3)
open Idealize.ShloMosaic.Pipeline (Dat Cfg Window)

variable (m : (ℓ : Loc nD τ sig) → Buf (Elt Ideal) ℓ)

/-- The input of device `c`, as an array of extended reals. -/
def xin (c : Dev nD) : Arr := m ((c : Thread nD τ).loc main_arg0)

/-- The two rotation matrices, as the host line makes them. -/
def hpC : Vec Ideal S256x256 .bf16 := fun i => FloatOps.ofBits (F := Ideal) .bf16 (lit0 (S256x256.rowMajor i))
def hnC : Vec Ideal S256x256 .bf16 := fun i => FloatOps.ofBits (F := Ideal) .bf16 (lit1 (S256x256.rowMajor i))

/-- The host line before the region. -/
def line : List (HloOp τ sig (Elt Ideal)) :=
  [ StableHlo.nullary main_cst hpC, StableHlo.nullary main_cst_0 hnC,
    StableHlo.reshape main_arg0 main_v0 (rfl : (.bf16 : EltTy) = .bf16) shapeCasts_S48x2048x768_S98304x768 ]

theorem V_line (c : Dev nD) (b : Ref sig .tc) : V m c b = StableHlo.after line (fun b => m (c, b)) (Proc.devRef .tc b) := rfl

theorem V_x (c : Dev nD) : V m c main_v0 = shapeCast S98304x768 (m ((c : Thread nD τ).loc main_arg0)) shapeCasts_S48x2048x768_S98304x768 := by
  rw [V_line]; unfold line
  after_results
  rfl

theorem V_hp (c : Dev nD) : V m c main_cst = hpC := by
  rw [V_line]; unfold line
  after_results

theorem V_hn (c : Dev nD) : V m c main_cst_0 = hnC := by
  rw [V_line]; unfold line
  after_results

theorem e0 : ∀ t : Fin cfg0.N, win0_0.index t = ![if t.val < 48 then t.val else t.val - 48, 0] :=
  (by decide +kernel : ∀ t : Fin grid0.N, win0_0.index t = ![if t.val < 48 then t.val else t.val - 48, 0])
theorem e1 : ∀ t : Fin cfg0.N, win0_1.index t = ![0, 0] :=
  (by decide +kernel : ∀ t : Fin grid0.N, win0_1.index t = ![0, 0])
theorem e2 : ∀ t : Fin cfg0.N, win0_2.index t = ![0, 0] :=
  (by decide +kernel : ∀ t : Fin grid0.N, win0_2.index t = ![0, 0])

/-! ## The rotation matrices -/

theorem odd4_comm (i j : ℕ) : odd4 i j = odd4 j i := by
  unfold odd4
  rw [Nat.land_comm]

theorem bits_quarter : Ideal.ofBits .bf16 0x3E80#16 = ((1/4 : ℝ) : EReal) := by
  simp [Ideal.ofBits, Ideal.ieee, -EReal.coe_mul]; norm_num
theorem bits_nquarter : Ideal.ofBits .bf16 0xBE80#16 = ((-1/4 : ℝ) : EReal) := by
  simp [Ideal.ofBits, Ideal.ieee, -EReal.coe_mul]; norm_num
theorem bits_zero : Ideal.ofBits .bf16 0x0000#16 = 0 := by
  simp [Ideal.ofBits, Ideal.ieee]
theorem bits_nzero : Ideal.ofBits .bf16 0x8000#16 = 0 := by
  simp [Ideal.ofBits, Ideal.ieee]

/-- The table's bits are the entries. -/
theorem bits4_ent (r k : ℕ) : Ideal.ofBits .bf16 (bits4 r k) = ent r k := by
  unfold bits4 ent h4
  rw [odd4_comm (r % 16) (k % 16)]
  by_cases h : r / 16 = k / 16
  · rw [if_pos h, if_pos h]
    cases odd4 (k % 16) (r % 16)
    · exact bits_quarter
    · exact bits_nquarter
  · rw [if_neg h, if_neg h]
    cases odd4 (k % 16) (r % 16)
    · exact bits_zero
    · exact bits_nzero

theorem rm256 (r k : Fin 256) : (S256x256.rowMajor (ix2 r k)).val = r.val * 256 + k.val := Shape.rowMajor_val_two _

theorem lit0_val (i : Fin 65536) : lit0 i = flat0 i.val := lit0_eq i.val i.isLt
theorem lit1_val (i : Fin 65536) : lit1 i = flat1 i.val := lit1_eq i.val i.isLt

theorem hpC_apply (r k : Fin 256) : hpC (ix2 r k) = ent (regroup r.val) k.val := by
  refine (congrArg (Ideal.ofBits .bf16) ((lit0_val (S256x256.rowMajor (ix2 r k))).trans ?_)).trans (bits4_ent _ _)
  refine (congrArg flat0 (rm256 r k)).trans ?_
  have h1 : (r.val * 256 + k.val) / 256 = r.val := by omega
  have h2 : (r.val * 256 + k.val) % 256 = k.val := by omega
  unfold flat0
  rw [h1, h2]

theorem hnC_apply (r k : Fin 256) : hnC (ix2 r k) = ent r.val k.val := by
  refine (congrArg (Ideal.ofBits .bf16) ((lit1_val (S256x256.rowMajor (ix2 r k))).trans ?_)).trans (bits4_ent _ _)
  refine (congrArg flat1 (rm256 r k)).trans ?_
  have h1 : (r.val * 256 + k.val) / 256 = r.val := by omega
  have h2 : (r.val * 256 + k.val) % 256 = k.val := by omega
  unfold flat1
  rw [h1, h2]

theorem hp_rot (c : Dev nD) (t : Fin cfg0.N) : IsRot (fun r => r % 16 * 16 + r / 16) (hpAt m c t) := fun r k => by
  have e : (win0_1.blk t).view.emb (ix2 r k) = (ix2 r k : S256x256.Idx) := by blk_ext [e1]
  unfold hpAt
  blk_simp [iblk, e1]
  rw [V_hp]
  exact (congrArg hpC e).trans (hpC_apply r k)

theorem hn_rot (c : Dev nD) (t : Fin cfg0.N) : IsRot (fun r => r) (hnAt m c t) := fun r k => by
  have e : (win0_2.blk t).view.emb (ix2 r k) = (ix2 r k : S256x256.Idx) := by blk_ext [e2]
  unfold hnAt
  blk_simp [iblk, e2]
  rw [V_hn]
  exact (congrArg hnC e).trans (hnC_apply r k)

/-! ## The tile -/

theorem x_tile (c : Dev nD) (t : Fin cfg0.N) (n : Fin 48) (h : (if t.val < 48 then t.val else t.val - 48) = n.val) :
    IsTile (xin m c) n (xAt m c t) := fun r k => by
  have e : (win0_0.blk t).view.emb (ix2 r k) = (ix2 (⟨2048 * n.val + r.val, by omega⟩ : Fin 98304) k : S98304x768.Idx) := by
    blk_ext [e0, h]
    show n.val * 2048 + r.val = 2048 * n.val + r.val
    omega
  unfold xAt
  blk_simp [iblk, e0]
  rw [V_x]
  refine (congrArg (shapeCast S98304x768 (m ((c : Thread nD τ).loc main_arg0)) shapeCasts_S48x2048x768_S98304x768) e).trans ?_
  refine shapeCast_apply _ _ _ (ix3 n r k) ?_
  rw [Shape.rowMajor_val_two, Shape.rowMajor_val_three]
  show (n.val * 2048 + r.val) * 768 + k.val = (2048 * n.val + r.val) * 768 + k.val
  omega

end Cert.Value
-- ==== Proof.Value.KPack.lean ====
/- Hand-written, untrusted. The kernel's second pass: the block scales, the reciprocals, the scaled entries, their codes
   eight to a word, the masking, and the bytes. -/
module

public import proofs.«01_k».proof.Proof.Value.KMax
public import Idealize.ShloMosaic.Lib.WordSum
public import Idealize.ShloMosaic.Lib.BitcastPair

@[expose] public section

noncomputable section

namespace Cert.Value

open Idealize.ShloMosaic
open Idealize.ShloMosaic.ValueIdx (ix1 ix2 ix3 eq_ix2 eq_ix3)
open Cert.KernelIdeal Cert.KernelIdeal.Gen Cert.KernelIdeal.Hand

/-! ## Scales -/

theorem pay12_apply (s : EReal) (b : Vec Ideal S1x48x2048 .f32) (g : Fin 48) (t : Fin 2048) :
    k0_pay12 (F := Ideal) s b (ix2 g t) = sbOf (b (ix3 0 g t)) s := by
  unfold sbOf
  rw [← ValueIdx.shapeCast_1ab_ab_apply b shapeCasts_S1x48x2048_S48x2048 g t, ← zero_f32]
  rfl

theorem pay13_apply (s : EReal) (b : Vec Ideal S1x48x2048 .f32) (u : Fin 1) (g : Fin 48) (t : Fin 2048) :
    k0_pay13 (F := Ideal) s b (ix3 u g t) = sbOf (b (ix3 0 g t)) s := by
  unfold k0_pay13
  exact (ValueIdx.shapeCast_ab_1ab_apply _ _ u g t).trans (pay12_apply s b g t)

theorem sel_eff (e : EReal) :
    (if BitVec.ofBool (decide (e = Ideal.ofBits .f32 0x00000000#32)) = 1#1 then Ideal.ofBits .f32 0x3F800000#32 else e) = if e = 0 then 1 else e := by
  rw [zero_f32, one_f32]
  by_cases h : e = 0
  · rw [if_pos h, decide_eq_true h]; rfl
  · rw [if_neg h, decide_eq_false h]; rfl

theorem pay14_apply (s : EReal) (b : Vec Ideal S1x48x2048 .f32) (g : Fin 48) (t : Fin 2048) :
    k0_pay14 (F := Ideal) s b (ix2 g t) = Ideal.div 1 (effOf (b (ix3 0 g t)) s) := by
  unfold effOf
  rw [← pay12_apply s b g t, ← sel_eff, ← one_f32]
  unfold k0_pay14
  simp only [shapeCast_self]
  rfl

theorem mul_div_one (x e : EReal) (h : e ≠ 0) : x * Ideal.div 1 e = Ideal.div x e := by
  unfold Ideal.div
  rw [if_neg h, if_neg h, one_mul]

/-! ## Scaled entries -/

theorem zCat_apply (y : FVec Ideal S256x2048 .f32) (v : Fin 16 → Vec Ideal S1x2048 .f32) (r : Fin 256) (t : Fin 2048) :
    zCat y v (ix2 r t) = y (ix2 r t) * v ⟨r.val / 16, by omega⟩ (ix2 0 t) := by
  unfold zCat
  refine (concatenate_ofFn_apply (t := S256x2048) (s₁ := S16x2048) 0 _ _ rfl 16 rfl (ix2 r t) ⟨r.val / 16, by omega⟩ rfl (ix2 ⟨r.val % 16, by omega⟩ t) rfl ?_).trans ?_
  · intro b hb
    match b with
    | ⟨0, _⟩ => exact absurd rfl hb
    | ⟨1, _⟩ => rfl
  · show extractStridedSlice S16x2048 _ y _ (ix2 ⟨r.val % 16, _⟩ t) * broadcastTo S16x2048 (v ⟨r.val / 16, _⟩) _ (ix2 ⟨r.val % 16, _⟩ t) = _
    rw [ValueIdx.broadcastTo_1b_ab_apply, ValueIdx.slice2_axis0_apply (16 * (r.val / 16)) y _ _ t r (by simp only; omega)]

/-! ## Codes -/

theorem sel_one (p : Prop) [Decidable p] : (if BitVec.ofBool (decide p) = 1#1 then 1#32 else 0#32) = b1 p := by
  unfold b1
  by_cases h : p
  · rw [if_pos h, decide_eq_true h]; rfl
  · rw [if_neg h, decide_eq_false h]; rfl
theorem sel_eight (p : Prop) [Decidable p] : (if BitVec.ofBool (decide p) = 1#1 then 8#32 else 0#32) = if p then 8#32 else 0#32 := by
  by_cases h : p
  · rw [if_pos h, decide_eq_true h]; rfl
  · rw [if_neg h, decide_eq_false h]; rfl

theorem f_quarter : Ideal.ofBits .f32 0x3E800000#32 = ((1/4 : ℝ) : EReal) := by simp [Ideal.ofBits, Ideal.ieee, -EReal.coe_mul]; norm_num
theorem f_54 : Ideal.ofBits .f32 0x3FA00000#32 = ((5/4 : ℝ) : EReal) := by simp [Ideal.ofBits, Ideal.ieee, -EReal.coe_mul]; norm_num
theorem f_52 : Ideal.ofBits .f32 0x40200000#32 = ((5/2 : ℝ) : EReal) := by simp [Ideal.ofBits, Ideal.ieee, -EReal.coe_mul]; norm_num
theorem f_5 : Ideal.ofBits .f32 0x40A00000#32 = ((5 : ℝ) : EReal) := by simp [Ideal.ofBits, Ideal.ieee, -EReal.coe_mul]; norm_num
theorem f_34 : Ideal.ofBits .f32 0x3F400000#32 = ((3/4 : ℝ) : EReal) := by simp [Ideal.ofBits, Ideal.ieee, -EReal.coe_mul]; norm_num
theorem f_74 : Ideal.ofBits .f32 0x3FE00000#32 = ((7/4 : ℝ) : EReal) := by simp [Ideal.ofBits, Ideal.ieee, -EReal.coe_mul]; norm_num
theorem f_72 : Ideal.ofBits .f32 0x40600000#32 = ((7/2 : ℝ) : EReal) := by simp [Ideal.ofBits, Ideal.ieee, -EReal.coe_mul]; norm_num

/-- The code with its boundaries as literals. -/
theorem kcode_lit (z : EReal) :
    kcode z = (if BitVec.ofBool (decide (z < Ideal.ofBits .f32 0x00000000#32)) = 1#1 then 8#32 else 0#32)
      + (if BitVec.ofBool (decide (Ideal.ofBits .f32 0x3E800000#32 < mag z)) = 1#1 then 1#32 else 0#32)
      + (if BitVec.ofBool (decide (Ideal.ofBits .f32 0x3FA00000#32 < mag z)) = 1#1 then 1#32 else 0#32)
      + (if BitVec.ofBool (decide (Ideal.ofBits .f32 0x40200000#32 < mag z)) = 1#1 then 1#32 else 0#32)
      + (if BitVec.ofBool (decide (Ideal.ofBits .f32 0x40A00000#32 < mag z)) = 1#1 then 1#32 else 0#32)
      + (if BitVec.ofBool (decide (Ideal.ofBits .f32 0x3F400000#32 ≤ mag z)) = 1#1 then 1#32 else 0#32)
      + (if BitVec.ofBool (decide (Ideal.ofBits .f32 0x3FE00000#32 ≤ mag z)) = 1#1 then 1#32 else 0#32)
      + (if BitVec.ofBool (decide (Ideal.ofBits .f32 0x40600000#32 ≤ mag z)) = 1#1 then 1#32 else 0#32) := by
  rw [sel_eight, sel_one, sel_one, sel_one, sel_one, sel_one, sel_one, sel_one, zero_f32, f_quarter, f_54, f_52, f_5, f_34, f_74, f_72]
  rfl

/-- The codes, each moved to its place in its word. -/
def shifted (z : FVec Ideal S256x2048 .f32) : IVec S32x8x2048 32 :=
  shli (shapeCast S32x8x2048 (fun q => kcode (z q)) shapeCasts_S256x2048_S32x8x2048)
    (muli (broadcast S32x8x2048 4#32) (iota .tc S32x8x2048 32 [1] iota_S32x8x2048_d1_w32))

theorem wordsOf_eq (z : FVec Ideal S256x2048 .f32) :
    wordsOf z = multiReductionI .add [1] S32x2048 (shifted z) 0#32 reduces_S32x8x2048_S32x2048 rfl := by
  have e : (fun q => kcode (z q)) = fun q => _ := funext fun q => kcode_lit (z q)
  unfold shifted
  rw [e]
  rfl

theorem shifted_apply (z : FVec Ideal S256x2048 .f32) (w : Fin 32) (k : Fin 8) (t : Fin 2048) :
    (shifted z (ix3 w k t)).toNat = (kcode (z (ix2 ⟨8 * w.val + k.val, by omega⟩ t))).toNat * 16 ^ k.val := by
  rw [← toNat_shift _ (code_eq _).2 k]
  have e1 : shapeCast S32x8x2048 (fun q => kcode (z q)) shapeCasts_S256x2048_S32x8x2048 (ix3 w k t) = kcode (z (ix2 ⟨8 * w.val + k.val, by omega⟩ t)) :=
    shapeCast_apply _ _ _ (ix2 ⟨8 * w.val + k.val, by omega⟩ t) (by
      rw [Shape.rowMajor_val_two, Shape.rowMajor_val_three]
      show (8 * w.val + k.val) * 2048 + t.val = (w.val * 8 + k.val) * 2048 + t.val
      omega)
  have e2 : muli (broadcast S32x8x2048 4#32) (iota .tc S32x8x2048 32 [1] iota_S32x8x2048_d1_w32) (ix3 w k t) = BitVec.ofNat 32 (4 * k.val) := by
    show 4#32 * iota .tc S32x8x2048 32 [1] iota_S32x8x2048_d1_w32 (ix3 w k t) = _
    rw [iota_single_apply]
    show 4#32 * BitVec.ofNat 32 k.val = _
    exact (BitVec.ofNat_mul ..).symm
  unfold shifted
  show (IntOp.shli .vector _ _).toNat = _
  rw [e1, e2]
  have l : (BitVec.ofNat 32 (4 * k.val)).toNat = 4 * k.val := by
    rw [BitVec.toNat_ofNat]; omega
  unfold IntOp.shli
  rw [if_pos (by rw [l]; omega), BitVec.shiftLeft_eq', l]

theorem lift8 (w : Fin 32) (t : Fin 2048) (k : Fin 8) :
    (reduces_S32x8x2048_S32x2048).lift (ix2 w t) k = (ix3 w k t : S32x8x2048.Idx) := by
  funext c
  apply Fin.ext
  match c with
  | ⟨0, _⟩ => rfl
  | ⟨1, _⟩ => rfl
  | ⟨2, _⟩ => rfl

/-- The codes of a word's eight rows. -/
def codes8 (z : FVec Ideal S256x2048 .f32) (w : Fin 32) (t : Fin 2048) (k : Fin 8) : ℕ := (kcode (z (ix2 ⟨8 * w.val + k.val, by omega⟩ t))).toNat

theorem wordsOf_apply (z : FVec Ideal S256x2048 .f32) (w : Fin 32) (t : Fin 2048) :
    (wordsOf z (ix2 w t)).toNat = word (codes8 z w t) := by
  have hs : ∑ i ∈ Finset.univ.filter (fun i => (reduces_S32x8x2048_S32x2048).drop i = ix2 w t), (shifted z i).toNat = word (codes8 z w t) := by
    refine (Shape.Reduces.sum_filter_drop_single (reduces_S32x8x2048_S32x2048) (fun i => (shifted z i).toNat) (ix2 w t)).trans ?_
    rw [← sum_word]
    refine Finset.sum_congr rfl fun k _ => ?_
    refine (congrArg (fun i => (shifted z i).toNat) (lift8 w t k)).trans (shifted_apply z w k t)
  rw [wordsOf_eq]
  refine (WordSum.toNat_multiReductionI_add _ _ _ _ ?_).trans hs
  rw [hs]
  exact word_lt _ fun k => (code_eq _).2

/-! ## Bytes -/

theorem bitcast_32_8 (x : IVec S32x2048 32) (h : S32x2048.Bitcasts 32 S128x2048 8) (p : Fin 128) (t : Fin 2048) :
    (bitcast S128x2048 8 x h (ix2 p t)).toNat = (x (ix2 ⟨p.val / 4, by omega⟩ t)).toNat / 2 ^ (8 * (p.val % 4)) % 256 := by
  have e : bitcast S128x2048 8 x h (ix2 p t) = (x (ix2 ⟨p.val / 4, by omega⟩ t)).extractLsb' (8 * (p.val % 4)) 8 := by
    apply BitVec.eq_of_getLsbD_eq
    intro i hi
    rw [bitcast_getLsbD x h _ i hi (by decide), BitVec.getLsbD_extractLsb']
    have hr : S128x2048.row (ix2 p t) = p.val := rfl
    have e1 : (S128x2048.row (ix2 p t) * 8 + i) / 32 = p.val / 4 := by rw [hr]; omega
    have e2 : (S128x2048.row (ix2 p t) * 8 + i) % 32 = 8 * (p.val % 4) + i := by rw [hr]; omega
    rw [e2, decide_eq_true hi, Bool.true_and]
    congr 2
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))
  rw [e, BitVec.extractLsb'_toNat, Nat.shiftRight_eq_div_pow]

/-- A packed byte is the codes of two neighbouring rows, the sign of a zero cleared. -/
theorem packOf_apply (z : FVec Ideal S256x2048 .f32) (t : Fin 2048) (p : Fin 128) :
    (packOf z (ix2 t p)).toNat = clean (kcode (z (ix2 ⟨2 * p.val, by omega⟩ t))).toNat + 16 * clean (kcode (z (ix2 ⟨2 * p.val + 1, by omega⟩ t))).toNat := by
  unfold packOf k0_pay36
  refine (congrArg BitVec.toNat (ValueIdx.transpose_ix2_apply _ _ t p)).trans ((bitcast_32_8 _ _ p t).trans ?_)
  have e : ∀ w : Fin 32, (andi (wordsOf z) (ori (k0_pay34 (absf z) (codesA z) (Scalar.ofBits .f32 0x40200000#32)) k0_pay35) (ix2 w t)).toNat = word (fun k => clean (codes8 z w t k)) := by
    intro w
    refine (toNat_mask (wordsOf z (ix2 w t))).trans ?_
    rw [wordsOf_apply, mask_word (codes8 z w t) fun k => (code_eq _).2]
  rw [e]
  refine (byte_word _ (fun k => ?_) ⟨p.val % 4, by omega⟩).trans ?_
  · have := (code_eq (z (ix2 ⟨8 * (p.val / 4) + k.val, by omega⟩ t))).2
    unfold clean codes8
    split <;> omega
  · unfold codes8
    refine congrArg₂ (fun a b : Fin 256 => clean (kcode (z (ix2 a t))).toNat + 16 * clean (kcode (z (ix2 b t))).toNat) (Fin.ext ?_) (Fin.ext ?_)
    · show 8 * (p.val / 4) + 2 * (p.val % 4) = 2 * p.val
      omega
    · show 8 * (p.val / 4) + (2 * (p.val % 4) + 1) = 2 * p.val + 1
      omega

/-! ## A tile's bytes -/

variable {X : Arr} {n : Fin 48} {M : Vec Ideal S256x256 .bf16}

/-- The reciprocal scales of a tile. -/
def IsRecip (X : Arr) (n : Fin 48) (rr : Vec Ideal S48x2048 .f32) : Prop :=
  ∀ (g : Fin 48) (t : Fin 2048), rr (ix2 g t) = Ideal.div 1 (effOf (bmx X n t g) (sgl X))

/-- A chunk's scaled entries. -/
theorem zCat_eq {K : Fin 3} {xk : Vec Ideal S2048x256 .bf16} (hx : IsChunk X n K xk) (hM : IsRot (fun r => r) M)
    {rr : Vec Ideal S48x2048 .f32} (hr : IsRecip X n rr) (v : Fin 16 → Vec Ideal S1x2048 .f32)
    (hv : ∀ (b : Fin 16) (t : Fin 2048), v b (ix2 0 t) = rr (ix2 ⟨16 * K.val + b.val, by omega⟩ t)) (r : Fin 256) (t : Fin 2048) :
    zCat (k0_pay15 M xk) v (ix2 r t) = zval X n t (blk K r.val r.isLt) ⟨r.val % 16, by omega⟩ := by
  rw [zCat_apply, mm_rot hx hM r t r.isLt, hv, hr, mul_div_one _ _ (effOf_ne _ _)]
  rfl

/-- A chunk's packed bytes. -/
theorem chunkP_eq {K : Fin 3} {xk : Vec Ideal S2048x256 .bf16} (hx : IsChunk X n K xk) (hM : IsRot (fun r => r) M)
    {rr : Vec Ideal S48x2048 .f32} (hr : IsRecip X n rr) (v : Fin 16 → Vec Ideal S1x2048 .f32)
    (hv : ∀ (b : Fin 16) (t : Fin 2048), v b (ix2 0 t) = rr (ix2 ⟨16 * K.val + b.val, by omega⟩ t)) (t : Fin 2048) (p : Fin 128) :
    chunkP M xk v (ix2 t p) = byte X n t ⟨128 * K.val + p.val, by omega⟩ := by
  apply BitVec.eq_of_toNat_eq
  unfold chunkP byte
  rw [packOf_apply, zCat_eq hx hM hr v hv, zCat_eq hx hM hr v hv, ← (code_eq _).1, ← (code_eq _).1, BitVec.toNat_ofNat]
  have c0 : ∀ g j, code X n t g j < 16 := fun g j => by
    unfold code
    rw [(code_eq _).1]
    have := (code_eq (zval X n t g j)).2
    unfold clean
    split <;> omega
  have e : ∀ (a b : Fin 48) (i j : Fin 16), (code X n t a i + 16 * code X n t b j) % 2 ^ 8 = code X n t a i + 16 * code X n t b j := fun a b i j => by
    have := c0 a i
    have := c0 b j
    omega
  rw [e]
  unfold blk
  refine congrArg₂ (· + 16 * ·) (congrArg₂ (code X n t) (Fin.ext ?_) (Fin.ext ?_)) (congrArg₂ (code X n t) (Fin.ext ?_) (Fin.ext ?_))
  · show 16 * K.val + 2 * p.val / 16 = (128 * K.val + p.val) / 8
    omega
  · show 2 * p.val % 16 = 2 * ((128 * K.val + p.val) % 8)
    omega
  · show 16 * K.val + (2 * p.val + 1) / 16 = (128 * K.val + p.val) / 8
    omega
  · show (2 * p.val + 1) % 16 = 2 * ((128 * K.val + p.val) % 8) + 1
    omega

/-- A tile's packed bytes. -/
theorem outP_eq {x : Vec Ideal S2048x768 .bf16} (hx : IsTile X n x) (hM : IsRot (fun r => r) M)
    {rr : Vec Ideal S48x2048 .f32} (hr : IsRecip X n rr) (t : Fin 2048) (q : Fin 384) :
    outP M x rr (ix2 t q) = byte X n t q := by
  unfold outP
  by_cases h0 : q.val < 128
  · rw [dif_pos (show ((ix2 t q : S2048x384.Idx) 1).val < 128 from h0)]
    refine (chunkP_eq hx.ch0 hM hr _ (fun b t => congrArg (fun g => rr (ix2 g t)) (Fin.ext ?_)) t ⟨q.val, h0⟩).trans (congrArg (byte X n t) (Fin.ext ?_))
    · show b.val = 16 * 0 + b.val
      omega
    · show 128 * 0 + q.val = q.val
      omega
  · rw [dif_neg (show ¬((ix2 t q : S2048x384.Idx) 1).val < 128 from h0)]
    by_cases h1 : q.val < 256
    · rw [dif_pos (show ((ix2 t q : S2048x384.Idx) 1).val < 256 from h1)]
      refine (chunkP_eq hx.ch1 hM hr _ (fun b t => rfl) t ⟨q.val - 128, by omega⟩).trans (congrArg (byte X n t) (Fin.ext ?_))
      show 128 * 1 + (q.val - 128) = q.val
      omega
    · rw [dif_neg (show ¬((ix2 t q : S2048x384.Idx) 1).val < 256 from h1)]
      refine (chunkP_eq hx.ch2 hM hr _ (fun b t => rfl) t ⟨q.val - 256, by omega⟩).trans (congrArg (byte X n t) (Fin.ext ?_))
      show 128 * 2 + (q.val - 256) = q.val
      omega

end Cert.Value

end
-- ==== Proof.Value.KTot.lean ====
/- Hand-written, untrusted. What the kernel's passes leave at a point, as functions of the input. -/
module

public import proofs.«01_k».proof.Proof.Value.KBlk
public import proofs.«01_k».proof.Proof.Value.KPack

@[expose] public section

set_option maxRecDepth 16384

noncomputable section

namespace Cert.Value

open Cert.KernelIdeal Cert.KernelIdeal.Gen Cert.KernelIdeal.Hand
open Idealize.ShloMosaic Idealize.ShloMosaic.TcCoe Idealize.ShloMosaic.Tactic
open Idealize.ShloMosaic.ValueIdx (ix1 ix2 ix3 eq_ix2 eq_ix3)
open Idealize.ShloMosaic.Pipeline (Dat Cfg Window)

variable (m : (ℓ : Loc nD τ sig) → Buf (Elt Ideal) ℓ)

/-- The running maximum after tile `k` bounds the tiles so far. -/
theorem gmx_le (c : Dev nD) (b : EReal) : ∀ k : ℕ, k < 48 → ((∀ (s : Fin 16) (t : Fin 2048), gmx m c k (ix2 s t) ≤ b)
    ↔ ∀ (n : Fin 48), n.val ≤ k → ∀ (t : Fin 2048) (g : Fin 48), bmx (xin m c) n t g ≤ b)
  | 0, _ => by
    refine (gmA_le (x_tile m c (pt 0 (by omega)) 0 rfl) (hp_rot m c _) b).trans ⟨fun h n hn t g => ?_, fun h t g => h 0 (Nat.le_refl 0) t g⟩
    have e : n = 0 := Fin.ext (Nat.le_zero.mp hn)
    rw [e]
    exact h t g
  | k + 1, hk => by
    have ih := gmx_le c b k (by omega)
    have hx := gmA_le (x_tile m c (pt (k + 1) (by omega)) ⟨k + 1, hk⟩ (if_pos hk)) (hp_rot m c (pt (k + 1) (by omega))) b
    have e : ∀ q, gmx m c (k + 1) q = max (gmx m c k q) (gmA (hpAt m c (pt (k + 1) (by omega))) (xAt m c (pt (k + 1) (by omega))) q) := fun q => by
      rw [← gmB_eq]
      exact congrFun (dif_pos hk) q
    constructor
    · intro h n hn t g
      have h1 : ∀ (s : Fin 16) (t : Fin 2048), gmx m c k (ix2 s t) ≤ b := fun s t => (le_max_left _ _).trans ((e _).symm.le.trans (h s t))
      have h2 : ∀ (s : Fin 16) (t : Fin 2048), gmA (hpAt m c (pt (k + 1) (by omega))) (xAt m c (pt (k + 1) (by omega))) (ix2 s t) ≤ b :=
        fun s t => (le_max_right _ _).trans ((e _).symm.le.trans (h s t))
      by_cases hc : n.val ≤ k
      · exact ih.mp h1 n hc t g
      · have en : n = ⟨k + 1, hk⟩ := Fin.ext (by show n.val = k + 1; omega)
        rw [en]
        exact hx.mp h2 t g
    · intro h s t
      rw [e]
      exact max_le (ih.mpr (fun n hn => h n (by omega)) s t) (hx.mpr (h ⟨k + 1, hk⟩ (Nat.le_refl _)) s t)

/-- The kernel's global scale. -/
theorem sgx_eq (c : Dev nD) (q : S1x1.Idx) : sgx m c q = sgl (xin m c) :=
  pay5_eq (gmx m c 47) fun b => (gmx_le m c b 47 (by omega)).trans
    ⟨fun h n t g => h n (by omega) t g, fun h n _ t g => h n t g⟩

/-- A tile's block maxima, out of all tiles'. -/
theorem slab_eq (c : Dev nD) (n : Fin 48) (g : Fin 48) (t : Fin 2048) : slab n (allB m c) (ix3 0 g t) = bmx (xin m c) n t g :=
  bmOf_eq (x_tile m c (pt n.val (by omega)) n (if_pos n.isLt)) (hp_rot m c _) g t

theorem tile_ge (c : Dev nD) (t : Fin cfg0.N) (h : 48 ≤ t.val) : IsTile (xin m c) (tileOf t) (xAt m c t) :=
  x_tile m c t (tileOf t) (if_neg (by omega))

/-- The second pass's bytes and block scales. -/
theorem out3_apply (c : Dev nD) (t : Fin cfg0.N) (h : 48 ≤ t.val) (r : Fin 2048) (q : Fin 384) :
    out3 m c t (ix2 r q) = byte (xin m c) (tileOf t) r q := by
  unfold out3
  refine outP_eq (tile_ge m c t h) (hn_rot m c t) (fun g r => ?_) r q
  rw [pay14_apply, slab_eq, sgx_eq]

theorem out4_apply (c : Dev nD) (t : Fin cfg0.N) (u : Fin 1) (g : Fin 48) (r : Fin 2048) :
    out4 m c t (ix3 u g r) = sbOf (bmx (xin m c) (tileOf t) r g) (sgl (xin m c)) := by
  unfold out4
  rw [pay13_apply, slab_eq, sgx_eq]

end Cert.Value
-- ==== Proof.Value.KArr.lean ====
/- Hand-written, untrusted. The arrays the kernel's pipeline leaves, at an index. -/
module

public import proofs.«01_k».proof.Proof.Value.KTot

@[expose] public section

set_option maxRecDepth 16384

noncomputable section

namespace Cert.Value

open Cert.KernelIdeal Cert.KernelIdeal.Gen Cert.KernelIdeal.Hand
open Idealize.ShloMosaic Idealize.ShloMosaic.TcCoe Idealize.ShloMosaic.Tactic
open Idealize.ShloMosaic.ValueIdx (ix1 ix2 ix3 eq_ix2 eq_ix3)
open Idealize.ShloMosaic.Pipeline (Dat Cfg Window)

variable (m : (ℓ : Loc nD τ sig) → Buf (Elt Ideal) ℓ)

/-! ## The arrays -/

theorem e3 : ∀ t : Fin cfg0.N, win0_3.index t = ![t.val - 48, 0] :=
  (by decide +kernel : ∀ t : Fin grid0.N, win0_3.index t = ![t.val - 48, 0])
theorem e4 : ∀ t : Fin cfg0.N, win0_4.index t = ![t.val - 48, 0, 0] :=
  (by decide +kernel : ∀ t : Fin grid0.N, win0_4.index t = ![t.val - 48, 0, 0])

/-- The bytes, row by row. -/
def G3 (X : Arr) : S98304x384.Idx → BitVec 8 := fun p =>
  byte X ⟨(p 0).val / 2048, by have : (p 0).val < 98304 := (p 0).isLt; omega⟩ ⟨(p 0).val % 2048, by omega⟩ ⟨(p 1).val, (p 1).isLt⟩
/-- The block scales, block before token. -/
def G4 (X : Arr) : S48x48x2048.Idx → EReal := fun p =>
  sbOf (bmx X ⟨(p 0).val, (p 0).isLt⟩ ⟨(p 2).val, (p 2).isLt⟩ ⟨(p 1).val, (p 1).isLt⟩) (sgl X)

theorem G3_of (X : Arr) (p : S98304x384.Idx) (n : Fin 48) (t : Fin 2048) (q : Fin 384) (h0 : (p 0).val = n.val * 2048 + t.val) (h1 : (p 1).val = q.val) :
    byte X n t q = G3 X p := by
  have e0 : (⟨(p 0).val / 2048, by have : (p 0).val < 98304 := (p 0).isLt; omega⟩ : Fin 48) = n := Fin.ext (by show (p 0).val / 2048 = n.val; omega)
  have e1 : (⟨(p 0).val % 2048, by omega⟩ : Fin 2048) = t := Fin.ext (by show (p 0).val % 2048 = t.val; omega)
  have e2 : (⟨(p 1).val, (p 1).isLt⟩ : Fin 384) = q := Fin.ext h1
  unfold G3
  rw [e0, e1, e2]

theorem G4_of (X : Arr) (p : S48x48x2048.Idx) (n : Fin 48) (g : Fin 48) (t : Fin 2048) (h0 : (p 0).val = n.val) (h1 : (p 1).val = g.val) (h2 : (p 2).val = t.val) :
    sbOf (bmx X n t g) (sgl X) = G4 X p := by
  have e0 : (⟨(p 0).val, (p 0).isLt⟩ : Fin 48) = n := Fin.ext h0
  have e1 : (⟨(p 1).val, (p 1).isLt⟩ : Fin 48) = g := Fin.ext h1
  have e2 : (⟨(p 2).val, (p 2).isLt⟩ : Fin 2048) = t := Fin.ext h2
  unfold G4
  rw [e0, e1, e2]

theorem emb3 (t : Fin cfg0.N) (y : ((cfg0.win 3).xblock (cfg0.grid.coords t)).Idx) :
    (((cfg0.win 3).blk t).view.emb y 0).val = (tileOf t).val * 2048 + (y 0).val ∧ (((cfg0.win 3).blk t).view.emb y 1).val = (y 1).val := by
  refine ⟨?_, ?_⟩ <;> blk_simp [e3]
  rfl

theorem emb4 (t : Fin cfg0.N) (y : ((cfg0.win 4).xblock (cfg0.grid.coords t)).Idx) :
    (((cfg0.win 4).blk t).view.emb y 0).val = (tileOf t).val ∧ (((cfg0.win 4).blk t).view.emb y 1).val = (y 1).val
      ∧ (((cfg0.win 4).blk t).view.emb y 2).val = (y 2).val := by
  have h0 : (y 0).val < 1 := (y 0).isLt
  refine ⟨?_, ?_, ?_⟩ <;> blk_simp [e4]
  rfl

theorem arr3 (c : Dev nD) : (Hand.dats m 0 c).arrAt 3 cfg0.N = G3 (xin m c) := by
  refine (Hand.dats m 0 c).arrAt_eq_of_covers 3 _ (by decide +kernel) fun t hf y => ?_
  have ht : 48 ≤ t.val := of_decide_eq_true ((flush3 t).symm.trans hf)
  refine (cast_eq _ _).trans ((congrFun (after0_3 m c t) _).trans ?_)
  refine (congrArg (out3 m c t) (eq_ix2 ((cfg0.win 3).xinj (cfg0.grid.coords t) y : S2048x384.Idx))).trans ?_
  refine (out3_apply m c t ht _ _).trans ?_
  exact G3_of _ _ _ _ _ (emb3 t y).1 (emb3 t y).2

theorem arr4 (c : Dev nD) : (Hand.dats m 0 c).arrAt 4 cfg0.N = G4 (xin m c) := by
  refine (Hand.dats m 0 c).arrAt_eq_of_covers 4 _ (by decide +kernel) fun t hf y => ?_
  refine (cast_eq _ _).trans ((congrFun (after0_4 m c t) _).trans ?_)
  refine (congrArg (out4 m c t) (eq_ix3 ((cfg0.win 4).xinj (cfg0.grid.coords t) y : S1x48x2048.Idx))).trans ?_
  refine (out4_apply m c t _ _ _).trans ?_
  exact G4_of _ _ _ _ _ (emb4 t y).1 (emb4 t y).2.1 (emb4 t y).2.2

theorem arr5 (c : Dev nD) : (Hand.dats m 0 c).arrAt 5 cfg0.N = fun _ => sgl (xin m c) := by
  refine (Hand.dats m 0 c).arrAt_eq_of_covers 5 _ (by decide +kernel) fun t hf y => ?_
  refine (cast_eq _ _).trans ((congrFun (after0_5 m c t) _).trans ?_)
  exact sgx_eq m c _

end Cert.Value
-- ==== Proof.Value.KRun.lean ====
/- Hand-written, untrusted. The kernel program run to its end: what its three results hold. -/
module

public import proofs.«01_k».proof.Proof.Value.KArr
public import proofs.«01_k».proof.Proof.KernelIdeal.Sound

@[expose] public section

set_option maxRecDepth 16384

noncomputable section

namespace Cert.Value

open Cert.KernelIdeal Cert.KernelIdeal.Gen Cert.KernelIdeal.Hand
open Idealize.ShloMosaic Idealize.ShloMosaic.TcCoe Idealize.ShloMosaic.Tactic
open Idealize.ShloMosaic.ValueIdx (ix1 ix2 ix3 eq_ix2 eq_ix3)
open Idealize.ShloMosaic.Pipeline (Dat Cfg Window)

/-- The three results, as functions of the input. -/
def R0 (X : Arr) : Vec Ideal S48x2048x384 .i8 := fun p => byte X ⟨(p 0).val, (p 0).isLt⟩ ⟨(p 1).val, (p 1).isLt⟩ ⟨(p 2).val, (p 2).isLt⟩
def R1 (X : Arr) : Vec Ideal S48x2048x48 .fp8e4m3 := fun p =>
  sbOf (bmx X ⟨(p 0).val, (p 0).isLt⟩ ⟨(p 1).val, (p 1).isLt⟩ ⟨(p 2).val, (p 2).isLt⟩) (sgl X)
def R2 (X : Arr) : Vec Ideal S_ .f32 := fun _ => sgl X

theorem R0_at (X : Arr) (n : Fin 48) (t : Fin 2048) (q : Fin 384) :
    shapeCast S48x2048x384 (G3 X) shapeCasts_S98304x384_S48x2048x384 (ix3 n t q) = byte X n t q := by
  refine (shapeCast_apply _ _ _ (ix2 (⟨2048 * n.val + t.val, by omega⟩ : Fin 98304) q) ?_).trans ?_
  · rw [Shape.rowMajor_val_two, Shape.rowMajor_val_three]
    show (2048 * n.val + t.val) * 384 + q.val = (n.val * 2048 + t.val) * 384 + q.val
    omega
  · exact (G3_of X _ n t q (by show 2048 * n.val + t.val = _; omega) rfl).symm

theorem R0_cast (X : Arr) : shapeCast S48x2048x384 (G3 X) shapeCasts_S98304x384_S48x2048x384 = R0 X := funext fun p =>
  (congrArg _ (eq_ix3 p)).trans (R0_at X _ _ _)

theorem R1_cast (X : Arr) : transpose S48x2048x48 [0, 2, 1] (G4 X) transposes_S48x48x2048_S48x2048x48_0_2_1 = R1 X := funext fun p =>
  (congrArg _ (eq_ix3 p)).trans ((ValueIdx.transpose_ix3_021_apply (G4 X) transposes_S48x48x2048_S48x2048x48_0_2_1 _ _ _).trans (G4_of X _ _ _ _ rfl rfl rfl).symm)

theorem R2_cast (X : Arr) : shapeCast S_ (fun _ : S1x1.Idx => sgl X) shapeCasts_S1x1_S_ = R2 X := rfl

variable (m : (ℓ : Loc nD τ sig) → Buf (Elt Ideal) ℓ) (ρ : Dev nD → PrngReg)

/-- The valuation the host line after the region starts from. -/
abbrev WA (c : Dev nD) : Valuation τ sig (Elt Ideal) :=
  Pipeline.withArrays (cfgs 0).spec c (V0 m c) fun w => (Hand.dats m 0 c).arrAt w (cfgs 0).N

/-- The host line after the region. -/
def line1 : List (HloOp τ sig (Elt Ideal)) := hostOps1

theorem tail2 (W : Valuation τ sig (Elt Ideal)) : StableHlo.after line1 W (Proc.devRef .tc main_v2)
    = shapeCast S48x2048x384 (W (Proc.devRef .tc main_v1_0)) shapeCasts_S98304x384_S48x2048x384 := by
  unfold line1
  after_results
  rfl

theorem tail3 (W : Valuation τ sig (Elt Ideal)) : StableHlo.after line1 W (Proc.devRef .tc main_v3)
    = transpose S48x2048x48 [0, 2, 1] (W (Proc.devRef .tc main_v1_1)) transposes_S48x48x2048_S48x2048x48_0_2_1 := by
  unfold line1
  after_results

theorem tail4 (W : Valuation τ sig (Elt Ideal)) : StableHlo.after line1 W (Proc.devRef .tc main_v4)
    = shapeCast S_ (W (Proc.devRef .tc main_v1_2)) shapeCasts_S1x1_S_ := by
  unfold line1
  after_results
  rfl

theorem W_eq (c : Dev nD) (w : Fin cfg0.W) : WA m c (Proc.devRef .tc (Pipeline.arrRef spec0 w)) = (Hand.dats m 0 c).arrAt w cfg0.N :=
  Pipeline.withArrays_arr spec0 (fun w w' h => (by decide : ∀ w w' : Fin 6, Pipeline.arrRef spec0 w = Pipeline.arrRef spec0 w' → w = w') w w' h) c (V0 m c) (fun w => (Hand.dats m 0 c).arrAt w cfg0.N) w

theorem end2 (c : Dev nD) : Pipeline.afterTail₀ cfgs (Hand.dats m) 0 (V0 m) [hostOps1] c main_v2 = R0 (xin m c) := by
  refine (tail2 (WA m c)).trans ?_
  refine (congrArg (fun x => shapeCast S48x2048x384 x shapeCasts_S98304x384_S48x2048x384) ((W_eq m c 3).trans (arr3 m c))).trans ?_
  exact R0_cast _

theorem end3 (c : Dev nD) : Pipeline.afterTail₀ cfgs (Hand.dats m) 0 (V0 m) [hostOps1] c main_v3 = R1 (xin m c) := by
  refine (tail3 (WA m c)).trans ?_
  refine (congrArg (fun x => transpose S48x2048x48 [0, 2, 1] x transposes_S48x48x2048_S48x2048x48_0_2_1) ((W_eq m c 4).trans (arr4 m c))).trans ?_
  exact R1_cast _

theorem end4 (c : Dev nD) : Pipeline.afterTail₀ cfgs (Hand.dats m) 0 (V0 m) [hostOps1] c main_v4 = R2 (xin m c) := by
  refine (tail4 (WA m c)).trans ?_
  refine (congrArg (fun x => shapeCast S_ x shapeCasts_S1x1_S_) ((W_eq m c 5).trans (arr5 m c))).trans ?_
  exact R2_cast _

/-- The kernel's run: its results are the three functions of the input, the input unchanged. -/
theorem kernel_run : θ_run defs (onTc (τ := τ) (main (F := Ideal))) ⟨m, fun _ => 0, ρ⟩ (fun r => ∀ c : Dev nD,
      r.2.mem ((c.tc : Thread nD τ).loc main_v2) = R0 (xin m c) ∧ r.2.mem ((c.tc : Thread nD τ).loc main_v3) = R1 (xin m c)
      ∧ r.2.mem ((c.tc : Thread nD τ).loc main_v4) = R2 (xin m c)
      ∧ r.2.mem ((c.tc : Thread nD τ).loc main_arg0) = m ((c.tc : Thread nD τ).loc main_arg0)) :=
  (θ_run defs _ _).mono (fun r h => fun c =>
    ⟨((h.1 c).2 main_v2 (Pipeline.mem_restRefs_of main_v2 (by decide) (by decide))).trans (end2 m c),
      ((h.1 c).2 main_v3 (Pipeline.mem_restRefs_of main_v3 (by decide) (by decide))).trans (end3 m c),
      ((h.1 c).2 main_v4 (Pipeline.mem_restRefs_of main_v4 (by decide) (by decide))).trans (end4 m c), h.2 c⟩)
    (θ_run_and (Hand.run_main m ρ) (Hand.unchanged m ρ))

end Cert.Value
-- ==== Proof.Value.RRun.lean ====
/- Hand-written, untrusted. The reference's run: its bytes, its block scales and its global scale, as functions of the
   argument. -/
module

public import proofs.«01_k».proof.Proof.Value.RReg
public import proofs.«01_k».proof.Proof.Value.KRun
public import Idealize.ShloMosaic.Lib.Pipeline.ValueKit.Geometry

@[expose] public section

set_option maxRecDepth 16384

noncomputable section

namespace Cert.Value.Ref

open Cert.ReferenceIdeal Cert.ReferenceIdeal.Gen
open Idealize.ShloMosaic Idealize.ShloMosaic.TcCoe Idealize.ShloMosaic.Tactic Idealize.SL.Sem
open Idealize.ShloMosaic.ValueIdx (ix1 ix2 ix3 ix4 eq_ix2 eq_ix3 eq_ix4)
open Idealize.ShloMosaic.Pipeline (Dat Cfg Window)

variable (m : (ℓ : Loc nD τ sig) → Buf (Elt Ideal) ℓ)

/-! ## The windows' blocks -/

theorem e0 : ∀ t : Fin cfg0.N, win0_0.index t = ![0, 0, 0, 0] :=
  (by decide +kernel : ∀ t : Fin grid0.N, win0_0.index t = ![0, 0, 0, 0])
theorem e1 : ∀ t : Fin cfg0.N, win0_1.index t = ![0, 0, 0] :=
  (by decide +kernel : ∀ t : Fin grid0.N, win0_1.index t = ![0, 0, 0])
theorem e2 : ∀ t : Fin cfg0.N, win0_2.index t = ![0, 0, 0] :=
  (by decide +kernel : ∀ t : Fin grid0.N, win0_2.index t = ![0, 0, 0])
theorem e3 : ∀ t : Fin cfg0.N, win0_3.index t = ![0, 0, 0] :=
  (by decide +kernel : ∀ t : Fin grid0.N, win0_3.index t = ![0, 0, 0])
theorem e4 : ∀ t : Fin cfg0.N, win0_4.index t = ![0, 0, 0] :=
  (by decide +kernel : ∀ t : Fin grid0.N, win0_4.index t = ![0, 0, 0])

/-- The three blocks that the region loads. -/
def yAt (c : Dev nD) (t : Fin cfg0.N) : Vec Ideal S48x2048x48x16 .f32 := iblk m c 0 t
def bAt (c : Dev nD) (t : Fin cfg0.N) : Vec Ideal S48x2048x48 .f32 := iblk m c 1 t
def sAt (c : Dev nD) (t : Fin cfg0.N) : Vec Ideal S1x1x1 .f32 := iblk m c 2 t

/-- A window that is its whole array, read at an index. -/
theorem rd0 (A : S48x2048x48x16.Idx → EReal) (t : Fin cfg0.N) (n : Fin 48) (k : Fin 2048) (g : Fin 48) (j : Fin 16) :
    ((cfg0.win 0).blk t).view.read (Elt Ideal) A (ix4 n k g j) = A (ix4 n k g j) := by
  have e : (win0_0.blk t).view.emb (ix4 n k g j) = (ix4 n k g j : S48x2048x48x16.Idx) := by blk_ext [e0]
  exact (cast_eq _ _).trans (congrArg A e)
theorem rd1 (A : S48x2048x48.Idx → EReal) (t : Fin cfg0.N) (n : Fin 48) (k : Fin 2048) (g : Fin 48) :
    ((cfg0.win 1).blk t).view.read (Elt Ideal) A (ix3 n k g) = A (ix3 n k g) := by
  have e : (win0_1.blk t).view.emb (ix3 n k g) = (ix3 n k g : S48x2048x48.Idx) := by blk_ext [e1]
  exact (cast_eq _ _).trans (congrArg A e)
theorem rd2 (A : S1x1x1.Idx → EReal) (s : EReal) (h : ∀ q, A q = s) (t : Fin cfg0.N) (q : S1x1x1.Idx) :
    ((cfg0.win 2).blk t).view.read (Elt Ideal) A q = s := (cast_eq _ _).trans (h _)

theorem yAt_apply (c : Dev nD) (t : Fin cfg0.N) (n : Fin 48) (k : Fin 2048) (g : Fin 48) (j : Fin 16) :
    yAt m c t (ix4 n k g j) = rot (xinR m c) n k g j :=
  (congrFun (congrArg (((cfg0.win 0).blk t).view.read (Elt Ideal)) (V_22 m c)) _).trans ((rd0 (yT m c) t n k g j).trans (yT_apply m c n k g j))

theorem bAt_apply (c : Dev nD) (t : Fin cfg0.N) (n : Fin 48) (k : Fin 2048) (g : Fin 48) :
    bAt m c t (ix3 n k g) = bmx (xinR m c) n k g :=
  (congrFun (congrArg (((cfg0.win 1).blk t).view.read (Elt Ideal)) (V_24 m c)) _).trans ((rd1 (maxT (yT m c)) t n k g).trans (maxT_apply m c n k g))

theorem sAt_apply (c : Dev nD) (t : Fin cfg0.N) (q : S1x1x1.Idx) : sAt m c t q = sgl (xinR m c) :=
  (congrFun (congrArg (((cfg0.win 2).blk t).view.read (Elt Ideal)) (V_29 m c)) _).trans (rd2 _ _ (fun q => sgl_eq m c _) t q)

/-! ## What the region stores -/

theorem out4_eq (y : Vec Ideal S48x2048x48x16 .f32) (b : Vec Ideal S48x2048x48 .f32) (s : Vec Ideal S1x1x1 .f32) : out0_4 y b s = k0_pay3 s b := by
  unfold_out out0_4
  rw [View.canon_cons_unit_lit, View.ld_unit_lit, View.ld_unit_lit] <;> decide

theorem out3_eq (y : Vec Ideal S48x2048x48x16 .f32) (b : Vec Ideal S48x2048x48 .f32) (s : Vec Ideal S1x1x1 .f32) :
    out0_3 y b s = k0_pay1 (k0_pay8 (k0_pay4 y s b) (k0_pay5 y s b) (k0_pay6 y s b)) (k0_pay9 (k0_pay4 y s b) (k0_pay5 y s b) (k0_pay6 y s b)) := by
  unfold_out out0_3
  rw [View.canon_cons_unit_lit, View.ld_unit_lit, View.ld_unit_lit, View.ld_unit_lit] <;> decide

theorem scale_apply (c : Dev nD) (t : Fin cfg0.N) (n : Fin 48) (k : Fin 2048) (g : Fin 48) :
    out0_4 (yAt m c t) (bAt m c t) (sAt m c t) (ix3 n k g) = sbOf (bmx (xinR m c) n k g) (sgl (xinR m c)) := by
  rw [out4_eq, pay3_apply _ _ _ (sAt_apply m c t), bAt_apply]

theorem val_apply (c : Dev nD) (t : Fin cfg0.N) (n : Fin 48) (k : Fin 2048) (g : Fin 48) (j : Fin 16) :
    k0_pay4 (yAt m c t) (sAt m c t) (bAt m c t) (ix4 n k g j) = clip6 (zval (xinR m c) n k g j) := by
  rw [pay4_apply _ _ _ _ (sAt_apply m c t), bAt_apply, yAt_apply]
  rfl

theorem byte_apply (c : Dev nD) (t : Fin cfg0.N) (n : Fin 48) (k : Fin 2048) (q : Fin 384) :
    out0_3 (yAt m c t) (bAt m c t) (sAt m c t) (ix3 n k q) = byte (xinR m c) n k q := by
  rw [out3_eq]
  refine (pay1_apply _ _ n k q).trans ((low_byte _ _).trans ?_)
  rw [code_apply, code_apply, val_apply, val_apply]
  rfl

/-! ## The arrays -/

theorem R0_of (X : Arr) (p : S48x2048x384.Idx) (n : Fin 48) (k : Fin 2048) (q : Fin 384) (h0 : (p 0).val = n.val) (h1 : (p 1).val = k.val) (h2 : (p 2).val = q.val) :
    byte X n k q = R0 X p := by
  have a0 : (⟨(p 0).val, (p 0).isLt⟩ : Fin 48) = n := Fin.ext h0
  have a1 : (⟨(p 1).val, (p 1).isLt⟩ : Fin 2048) = k := Fin.ext h1
  have a2 : (⟨(p 2).val, (p 2).isLt⟩ : Fin 384) = q := Fin.ext h2
  rw [← a0, ← a1, ← a2]
  rfl

theorem R1_of (X : Arr) (p : S48x2048x48.Idx) (n : Fin 48) (k : Fin 2048) (g : Fin 48) (h0 : (p 0).val = n.val) (h1 : (p 1).val = k.val) (h2 : (p 2).val = g.val) :
    sbOf (bmx X n k g) (sgl X) = R1 X p := by
  have a0 : (⟨(p 0).val, (p 0).isLt⟩ : Fin 48) = n := Fin.ext h0
  have a1 : (⟨(p 1).val, (p 1).isLt⟩ : Fin 2048) = k := Fin.ext h1
  have a2 : (⟨(p 2).val, (p 2).isLt⟩ : Fin 48) = g := Fin.ext h2
  rw [← a0, ← a1, ← a2]
  rfl

theorem emb3 (t : Fin cfg0.N) (y : ((cfg0.win 3).xblock (cfg0.grid.coords t)).Idx) :
    (((cfg0.win 3).blk t).view.emb y 0).val = (y 0).val ∧ (((cfg0.win 3).blk t).view.emb y 1).val = (y 1).val ∧ (((cfg0.win 3).blk t).view.emb y 2).val = (y 2).val := by
  refine ⟨?_, ?_, ?_⟩ <;> blk_simp [e3]

theorem emb4 (t : Fin cfg0.N) (y : ((cfg0.win 4).xblock (cfg0.grid.coords t)).Idx) :
    (((cfg0.win 4).blk t).view.emb y 0).val = (y 0).val ∧ (((cfg0.win 4).blk t).view.emb y 1).val = (y 1).val ∧ (((cfg0.win 4).blk t).view.emb y 2).val = (y 2).val := by
  refine ⟨?_, ?_, ?_⟩ <;> blk_simp [e4]

theorem arr3 (c : Dev nD) : (dats m 0 c).arrAt 3 cfg0.N = R0 (xinR m c) := by
  refine (dats m 0 c).arrAt_eq_of_covers 3 _ (by decide +kernel) fun t hf y => ?_
  refine (cast_eq _ _).trans ((congrFun (after0_3 m c t) _).trans ?_)
  refine (congrArg (out0_3 (yAt m c t) (bAt m c t) (sAt m c t)) (eq_ix3 ((cfg0.win 3).xinj (cfg0.grid.coords t) y : S48x2048x384.Idx))).trans ?_
  refine (byte_apply m c t _ _ _).trans ?_
  exact R0_of _ _ _ _ _ (emb3 t y).1 (emb3 t y).2.1 (emb3 t y).2.2

theorem arr4 (c : Dev nD) : (dats m 0 c).arrAt 4 cfg0.N = R1 (xinR m c) := by
  refine (dats m 0 c).arrAt_eq_of_covers 4 _ (by decide +kernel) fun t hf y => ?_
  refine (cast_eq _ _).trans ((congrFun (after0_4 m c t) _).trans ?_)
  refine (congrArg (out0_4 (yAt m c t) (bAt m c t) (sAt m c t)) (eq_ix3 ((cfg0.win 4).xinj (cfg0.grid.coords t) y : S48x2048x48.Idx))).trans ?_
  refine (scale_apply m c t _ _ _).trans ?_
  exact R1_of _ _ _ _ _ (emb4 t y).1 (emb4 t y).2.1 (emb4 t y).2.2

/-! ## The run -/

variable (ρ : Dev nD → PrngReg)

theorem reference_run : θ_run defs (onTc (τ := τ) (main (F := Ideal))) ⟨m, fun _ => 0, ρ⟩ fun r => ∀ c : Dev nD,
    r.2.mem ((c : Thread nD τ).loc main_v30_0) = R0 (xinR m c)
    ∧ r.2.mem ((c : Thread nD τ).loc main_v30_1) = R1 (xinR m c)
    ∧ r.2.mem ((c : Thread nD τ).loc main_v28) = R2 (xinR m c)
    ∧ r.2.mem ((c : Thread nD τ).loc main_arg0) = m ((c : Thread nD τ).loc main_arg0) :=
  (θ_run defs _ _).mono (fun r h c => ⟨(Cert.ReferenceIdeal.Value.post3 m r h c).trans (arr3 m c),
      (Cert.ReferenceIdeal.Value.post4 m r h c).trans (arr4 m c),
      (((h c).2 main_v28 (Pipeline.mem_restRefs_of main_v28 (by decide) (by decide))).trans (V_28 m c)).trans (funext fun p => sgl_eq m c p),
      Cert.ReferenceIdeal.Value.kept_main_arg0 m r h c⟩)
    (run_main m ρ)

end Cert.Value.Ref
-- ==== Proof.Value.Same.lean ====
/- Hand-written, untrusted. The two programs on equal arguments: equal results. -/
module

public import proofs.«01_k».proof.Defs
public import proofs.«01_k».proof.Proof.Value.RRun

@[expose] public section

noncomputable section

namespace Cert.Value

open Idealize.ShloMosaic Idealize.ShloMosaic.TcCoe Idealize.SL.Sem

/-- On equal arguments both programs leave the same bytes, block scales and global scale: the three functions of the
    argument array. -/
theorem same : Cert.algebraic_KernelIdeal_ReferenceIdeal (hKernelIdeal := Cert.KernelIdeal.Gen.facts) (hReferenceIdeal := Cert.ReferenceIdeal.Gen.facts) := by
  intro m g m' g' _ h
  have hx : ∀ c, Ref.xinR m' c = xin m c := h
  refine ⟨fun c => R0 (xin m c), fun c => R1 (xin m c), fun c => R2 (xin m c), kernel_run m g, ?_⟩
  refine (θ_run _ _ _).mono (fun r k c => ?_) (Ref.reference_run m' g')
  have kc := k c
  rw [hx c] at kc
  exact kc

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Sound
public import proofs.«01_k».proof.Proof.KernelIdeal.Sound
public import proofs.«01_k».proof.Proof.Value.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ, trivial, Cert.Value.same⟩

end Cert.Proof

end
